-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v82_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v82_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x4112x4x192 : Shape := ⟨4, ![16, 4112, 4, 192]⟩
abbrev S16x4112x4x128 : Shape := ⟨4, ![16, 4112, 4, 128]⟩
abbrev S_ : Shape := ⟨0, ![]⟩

class Facts : Prop where
  bcast_S_S16x4112x4x192 : S_.BroadcastsInDim S16x4112x4x192 (![] : Fin 0 → Fin S16x4112x4x192.rank)
  reducesTo_S16x4112x4x192_S_d0_1_2_3 : S16x4112x4x192.ReducesTo [0, 1, 2, 3] S_
  h_S_ : 0 < S_.numel

variable [Facts]

def fn {F : FTy → Type} [FloatOps F] (main_arg0 : FVec F S16x4112x4x192 .f32) (main_arg1 : FVec F S16x4112x4x192 .f32) (main_arg2 : FVec F S16x4112x4x128 .f32) : IVec S_ 1 :=
  let main_v0 : FVec F S16x4112x4x192 .f32 := Host.absf main_arg0
  let main_cst : FVec F S_ .f32 := constant S_ .f32 0x7F800000#32
  let main_v1 : FVec F S16x4112x4x192 .f32 := broadcastInDim S16x4112x4x192 ![] bcast_S_S16x4112x4x192 main_cst
  let main_v2 : IVec S16x4112x4x192 1 := cmpf .olt main_v0 main_v1
  let main_c : IVec S_ 1 := constantI S_ 1 1#1
  let main_v3 : IVec S_ 1 := (fun x v => Host.reduce IntOp.andi x v reducesTo_S16x4112x4x192_S_d0_1_2_3 h_S_) main_v2 main_c
  let main_v4 : FVec F S16x4112x4x192 .f32 := Host.absf main_arg1
  let main_cst_0 : FVec F S_ .f32 := constant S_ .f32 0x7F800000#32
  let main_v5 : FVec F S16x4112x4x192 .f32 := broadcastInDim S16x4112x4x192 ![] bcast_S_S16x4112x4x192 main_cst_0
  let main_v6 : IVec S16x4112x4x192 1 := cmpf .olt main_v4 main_v5
  let main_c_1 : IVec S_ 1 := constantI S_ 1 1#1
  let main_v7 : IVec S_ 1 := (fun x v => Host.reduce IntOp.andi x v reducesTo_S16x4112x4x192_S_d0_1_2_3 h_S_) main_v6 main_c_1
  let main_v8 : IVec S_ 1 := andi main_v3 main_v7
  main_v8
-- ==== Kernel.lean ====
abbrev S16x4112x4x192 : Shape := ⟨4, ![16, 4112, 4, 192]⟩
abbrev S16x4112x4x128 : Shape := ⟨4, ![16, 4112, 4, 128]⟩
abbrev S_ : Shape := ⟨0, ![]⟩
abbrev S16x4112x4x64 : Shape := ⟨4, ![16, 4112, 4, 64]⟩
abbrev S16x4112x2x1x128 : Shape := ⟨5, ![16, 4112, 2, 1, 128]⟩
abbrev S16x4112x2x2x128 : Shape := ⟨5, ![16, 4112, 2, 2, 128]⟩
abbrev S16x4112x4x256 : Shape := ⟨4, ![16, 4112, 4, 256]⟩
abbrev S16x4112x1024 : Shape := ⟨3, ![16, 4112, 1024]⟩
abbrev S16x4112x512 : Shape := ⟨3, ![16, 4112, 512]⟩
abbrev S1x4112x512 : Shape := ⟨3, ![1, 4112, 512]⟩
abbrev S1x4112x256 : Shape := ⟨3, ![1, 4112, 256]⟩
abbrev S4224x128 : Shape := ⟨2, ![4224, 128]⟩
abbrev S2x144x4224 : Shape := ⟨3, ![2, 144, 4224]⟩
abbrev S4120x256 : Shape := ⟨2, ![4120, 256]⟩
abbrev S16x4224 : Shape := ⟨2, ![16, 4224]⟩
abbrev S112x128 : Shape := ⟨2, ![112, 128]⟩
abbrev S1x4112x128 : Shape := ⟨3, ![1, 4112, 128]⟩
abbrev S4112x128 : Shape := ⟨2, ![4112, 128]⟩
abbrev S128x4224 : Shape := ⟨2, ![128, 4224]⟩
abbrev S1x128x4224 : Shape := ⟨3, ![1, 128, 4224]⟩
abbrev S1x16x4224 : Shape := ⟨3, ![1, 16, 4224]⟩
abbrev S4112x256 : Shape := ⟨2, ![4112, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩
abbrev S8x256 : Shape := ⟨2, ![8, 256]⟩
abbrev S2048x256 : Shape := ⟨2, ![2048, 256]⟩
abbrev S1x144x2048 : Shape := ⟨3, ![1, 144, 2048]⟩
abbrev S144x2048 : Shape := ⟨2, ![144, 2048]⟩
abbrev S144x256 : Shape := ⟨2, ![144, 256]⟩
abbrev S2064x256 : Shape := ⟨2, ![2064, 256]⟩
abbrev S112x256 : Shape := ⟨2, ![112, 256]⟩
abbrev S2176x256 : Shape := ⟨2, ![2176, 256]⟩
abbrev S1x144x2176 : Shape := ⟨3, ![1, 144, 2176]⟩
abbrev S144x2176 : Shape := ⟨2, ![144, 2176]⟩
abbrev S128x256 : Shape := ⟨2, ![128, 256]⟩
abbrev S256x128 : Shape := ⟨2, ![256, 128]⟩
abbrev S1x256x128 : Shape := ⟨3, ![1, 256, 128]⟩
abbrev S1x2048x256 : Shape := ⟨3, ![1, 2048, 256]⟩
abbrev S1x2064x256 : Shape := ⟨3, ![1, 2064, 256]⟩

abbrev nBuf : Space → Nat
  | .hbm => 42
  | .vmem => 14
  | .smem => 0
  | _ => 0

abbrev bufTy : (tb : Table) → Fin (tcTables nBuf tb) → BufTy
  | .hbm, ⟨0, _⟩ => ⟨S16x4112x4x192, .f32⟩
  | .hbm, ⟨1, _⟩ => ⟨S16x4112x4x192, .f32⟩
  | .hbm, ⟨2, _⟩ => ⟨S16x4112x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x4112x4x192, .f32⟩
  | .hbm, ⟨11, _⟩ => ⟨S16x4112x4x192, .f32⟩
  | .hbm, ⟨12, _⟩ => ⟨S16x4112x4x64, .f32⟩
  | .hbm, ⟨13, _⟩ => ⟨S16x4112x2x1x128, .f32⟩
  | .hbm, ⟨14, _⟩ => ⟨S16x4112x2x2x128, .f32⟩
  | .hbm, ⟨15, _⟩ => ⟨S16x4112x4x128, .f32⟩
  | .hbm, ⟨16, _⟩ => ⟨S16x4112x4x128, .f32⟩
  | .hbm, ⟨17, _⟩ => ⟨S16x4112x4x256, .f32⟩
  | .hbm, ⟨18, _⟩ => ⟨S16x4112x1024, .f32⟩
  | .hbm, ⟨19, _⟩ => ⟨S16x4112x4x64, .f32⟩
  | .hbm, ⟨20, _⟩ => ⟨S16x4112x4x128, .f32⟩
  | .hbm, ⟨21, _⟩ => ⟨S16x4112x4x128, .i32⟩
  | .hbm, ⟨22, _⟩ => ⟨S16x4112x4x128, .i32⟩
  | .hbm, ⟨23, _⟩ => ⟨S_, .i32⟩
  | .hbm, ⟨24, _⟩ => ⟨S16x4112x4x128, .i32⟩
  | .hbm, ⟨25, _⟩ => ⟨S16x4112x4x128, .i32⟩
  | .hbm, ⟨26, _⟩ => ⟨S_, .i32⟩
  | .hbm, ⟨27, _⟩ => ⟨S16x4112x4x128, .i32⟩
  | .hbm, ⟨28, _⟩ => ⟨S16x4112x4x128, .i32⟩
  | .hbm, ⟨29, _⟩ => ⟨S16x4112x4x128, .i1⟩
  | .hbm, ⟨30, _⟩ => ⟨S_, .f32⟩
  | .hbm, ⟨31, _⟩ => ⟨S16x4112x4x128, .f32⟩
  | .hbm, ⟨32, _⟩ => ⟨S16x4112x4x128, .f32⟩
  | .hbm, ⟨33, _⟩ => ⟨S16x4112x4x128, .f32⟩
  | .hbm, ⟨34, _⟩ => ⟨S16x4112x4x256, .f32⟩
  | .hbm, ⟨35, _⟩ => ⟨S16x4112x1024, .f32⟩
  | .hbm, ⟨36, _⟩ => ⟨S16x4112x512, .f32⟩
  | .hbm, ⟨37, _⟩ => ⟨S16x4112x1024, .bf16⟩
  | .hbm, ⟨38, _⟩ => ⟨S16x4112x1024, .bf16⟩
  | .hbm, ⟨39, _⟩ => ⟨S16x4112x512, .bf16⟩
  | .hbm, ⟨40, _⟩ => ⟨S16x4112x512, .bf16⟩
  | .hbm, ⟨41, _⟩ => ⟨S16x4112x512, .f32⟩
  | .local _ .vmem, ⟨0, _⟩ => ⟨S1x4112x512, .bf16⟩
  | .local _ .vmem, ⟨1, _⟩ => ⟨S1x4112x512, .bf16⟩
  | .local _ .vmem, ⟨2, _⟩ => ⟨S1x4112x512, .bf16⟩
  | .local _ .vmem, ⟨3, _⟩ => ⟨S1x4112x512, .bf16⟩
  | .local _ .vmem, ⟨4, _⟩ => ⟨S1x4112x256, .bf16⟩
  | .local _ .vmem, ⟨5, _⟩ => ⟨S1x4112x256, .bf16⟩
  | .local _ .vmem, ⟨6, _⟩ => ⟨S1x4112x256, .bf16⟩
  | .local _ .vmem, ⟨7, _⟩ => ⟨S1x4112x256, .bf16⟩
  | .local _ .vmem, ⟨8, _⟩ => ⟨S4224x128, .f32⟩
  | .local _ .vmem, ⟨9, _⟩ => ⟨S2x144x4224, .bf16⟩
  | .local _ .vmem, ⟨10, _⟩ => ⟨S4120x256, .f32⟩
  | .local _ .vmem, ⟨11, _⟩ => ⟨S4120x256, .f32⟩
  | .local _ .vmem, ⟨12, _⟩ => ⟨S4120x256, .f32⟩
  | .local _ .vmem, ⟨13, _⟩ => ⟨S4120x256, .f32⟩
  | _, _ => ⟨S16x4112x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c3_i32 : BitVec 32 := 3#32
  let v77 : BitVec 32 := Scalar.addi c0_i32 c3_i32
  let c1_i32 : BitVec 32 := 1#32
  ⟨c0_i32, v77, c1_i32⟩
def k0_mult1 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v517 : BitVec 32 := Scalar.muli c2_i32 arg12
  let c1_i32_341 : BitVec 32 := 1#32
  let v518 : BitVec 32 := Scalar.addi v517 c1_i32_341
  let c512_i32 : BitVec 32 := 512#32
  let v519 : BitVec 32 := Scalar.muli v518 c512_i32
  let c0_i32_342 : BitVec 32 := 0#32
  let v520 : BitVec 32 := Scalar.addi v519 c0_i32_342
  v520
def k0_mult2 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v517 : BitVec 32 := Scalar.muli c2_i32 arg12
  let c1_i32_341 : BitVec 32 := 1#32
  let v518 : BitVec 32 := Scalar.addi v517 c1_i32_341
  let c512_i32_343 : BitVec 32 := 512#32
  let v521 : BitVec 32 := Scalar.muli v518 c512_i32_343
  let c256_i32 : BitVec 32 := 256#32
  let v522 : BitVec 32 := Scalar.addi v521 c256_i32
  v522
def k0_off1 (k0_t1 : Fin k0_t1_loop.trips) (c1_i32_341 : BitVec 32) (c0_i32_342 : BitVec 32) : Fin 3 → Nat :=
  let c0_347 : Index := 0#32
  let c2_i32 : BitVec 32 := 2#32
  let c0_i32 : BitVec 32 := 0#32
  let c1_i32 : BitVec 32 := 1#32
  let arg12 : BitVec 32 := Scf.iv c0_i32 c1_i32 k0_t1
  let v517 : BitVec 32 := Scalar.muli c2_i32 arg12
  let v518 : BitVec 32 := Scalar.addi v517 c1_i32_341
  let c512_i32 : BitVec 32 := 512#32
  let v519 : BitVec 32 := Scalar.muli v518 c512_i32
  let v520 : BitVec 32 := Scalar.addi v519 c0_i32_342
  let v523 : BitVec 32 := v520
  let v527 : Index := Scalar.indexCast v523
  let c0_348 : Index := 0#32
  ![0, v527.toNat, 0]
def k0_mult3 (k0_t1 : Fin k0_t1_loop.trips) : BitVec 32 :=
  let c2_i32_366 : BitVec 32 := 2#32
  let c0_i32 : BitVec 32 := 0#32
  let c1_i32 : BitVec 32 := 1#32
  let arg12 : BitVec 32 := Scf.iv c0_i32 c1_i32 k0_t1
  let v557 : BitVec 32 := Scalar.muli c2_i32_366 arg12
  let c512_i32_367 : BitVec 32 := 512#32
  let v558 : BitVec 32 := Scalar.muli v557 c512_i32_367
  let c0_i32_368 : BitVec 32 := 0#32
  let v559 : BitVec 32 := Scalar.addi v558 c0_i32_368
  v559
def k0_mult4 (k0_t1 : Fin k0_t1_loop.trips) : BitVec 32 :=
  let c2_i32_366 : BitVec 32 := 2#32
  let c0_i32 : BitVec 32 := 0#32
  let c1_i32 : BitVec 32 := 1#32
  let arg12 : BitVec 32 := Scf.iv c0_i32 c1_i32 k0_t1
  let v557 : BitVec 32 := Scalar.muli c2_i32_366 arg12
  let c512_i32_369 : BitVec 32 := 512#32
  let v560 : BitVec 32 := Scalar.muli v557 c512_i32_369
  let c256_i32_370 : BitVec 32 := 256#32
  let v561 : BitVec 32 := Scalar.addi v560 c256_i32_370
  v561
def k0_off2 (k0_t1 : Fin k0_t1_loop.trips) (c0_i32_368 : BitVec 32) : Fin 3 → Nat :=
  let c0_386 : Index := 0#32
  let c2_i32_366 : BitVec 32 := 2#32
  let c0_i32 : BitVec 32 := 0#32
  let c1_i32 : BitVec 32 := 1#32
  let arg12 : BitVec 32 := Scf.iv c0_i32 c1_i32 k0_t1
  let v557 : BitVec 32 := Scalar.muli c2_i32_366 arg12
  let c512_i32_367 : BitVec 32 := 512#32
  let v558 : BitVec 32 := Scalar.muli v557 c512_i32_367
  let v559 : BitVec 32 := Scalar.addi v558 c0_i32_368
  let v562 : BitVec 32 := v559
  let v591 : Index := Scalar.indexCast v562
  let c0_387 : Index := 0#32
  ![0, v591.toNat, 0]
def k0_mult5 (k0_t1 : Fin k0_t1_loop.trips) : BitVec 32 :=
  let c2_i32_405 : BitVec 32 := 2#32
  let c0_i32 : BitVec 32 := 0#32
  let c1_i32 : BitVec 32 := 1#32
  let arg12 : BitVec 32 := Scf.iv c0_i32 c1_i32 k0_t1
  let v626 : BitVec 32 := Scalar.muli c2_i32_405 arg12
  let c2_i32_406 : BitVec 32 := 2#32
  let v627 : BitVec 32 := Scalar.addi v626 c2_i32_406
  let c512_i32_407 : BitVec 32 := 512#32
  let v628 : BitVec 32 := Scalar.muli v627 c512_i32_407
  let c0_i32_408 : BitVec 32 := 0#32
  let v629 : BitVec 32 := Scalar.addi v628 c0_i32_408
  v629
def k0_mult6 (k0_t1 : Fin k0_t1_loop.trips) : BitVec 32 :=
  let c2_i32_405 : BitVec 32 := 2#32
  let c0_i32 : BitVec 32 := 0#32
  let c1_i32 : BitVec 32 := 1#32
  let arg12 : BitVec 32 := Scf.iv c0_i32 c1_i32 k0_t1
  let v626 : BitVec 32 := Scalar.muli c2_i32_405 arg12
  let c2_i32_406 : BitVec 32 := 2#32
  let v627 : BitVec 32 := Scalar.addi v626 c2_i32_406
  let c512_i32_409 : BitVec 32 := 512#32
  let v630 : BitVec 32 := Scalar.muli v627 c512_i32_409
  let c256_i32_410 : BitVec 32 := 256#32
  let v631 : BitVec 32 := Scalar.addi v630 c256_i32_410
  v631
def k0_mult7 (k0_t1 : Fin k0_t1_loop.trips) : BitVec 32 :=
  let c2_i32_433 : BitVec 32 := 2#32
  let c0_i32 : BitVec 32 := 0#32
  let c1_i32 : BitVec 32 := 1#32
  let arg12 : BitVec 32 := Scf.iv c0_i32 c1_i32 k0_t1
  let v666 : BitVec 32 := Scalar.muli c2_i32_433 arg12
  let c1_i32_434 : BitVec 32 := 1#32
  let v667 : BitVec 32 := Scalar.addi v666 c1_i32_434
  let c512_i32_435 : BitVec 32 := 512#32
  let v668 : BitVec 32 := Scalar.muli v667 c512_i32_435
  let c0_i32_436 : BitVec 32 := 0#32
  let v669 : BitVec 32 := Scalar.addi v668 c0_i32_436
  v669
def k0_mult8 (k0_t1 : Fin k0_t1_loop.trips) : BitVec 32 :=
  let c2_i32_433 : BitVec 32 := 2#32
  let c0_i32 : BitVec 32 := 0#32
  let c1_i32 : BitVec 32 := 1#32
  let arg12 : BitVec 32 := Scf.iv c0_i32 c1_i32 k0_t1
  let v666 : BitVec 32 := Scalar.muli c2_i32_433 arg12
  let c1_i32_434 : BitVec 32 := 1#32
  let v667 : BitVec 32 := Scalar.addi v666 c1_i32_434
  let c512_i32_437 : BitVec 32 := 512#32
  let v670 : BitVec 32 := Scalar.muli v667 c512_i32_437
  let c256_i32_438 : BitVec 32 := 256#32
  let v671 : BitVec 32 := Scalar.addi v670 c256_i32_438
  v671
def k0_off3 (k0_t1 : Fin k0_t1_loop.trips) (c0_i32_436 : BitVec 32) : Fin 3 → Nat :=
  let c0_454 : Index := 0#32
  let c2_i32_433 : BitVec 32 := 2#32
  let c0_i32 : BitVec 32 := 0#32
  let c1_i32 : BitVec 32 := 1#32
  let arg12 : BitVec 32 := Scf.iv c0_i32 c1_i32 k0_t1
  let v666 : BitVec 32 := Scalar.muli c2_i32_433 arg12
  let c1_i32_434 : BitVec 32 := 1#32
  let v667 : BitVec 32 := Scalar.addi v666 c1_i32_434
  let c512_i32_435 : BitVec 32 := 512#32
  let v668 : BitVec 32 := Scalar.muli v667 c512_i32_435
  let v669 : BitVec 32 := Scalar.addi v668 c0_i32_436
  let v672 : BitVec 32 := v669
  let v701 : Index := Scalar.indexCast v672
  let c0_455 : Index := 0#32
  ![0, v701.toNat, 0]
@[reducible] def k0_t2_loop : Scf.Loop 32 :=
  let c0_i32_204 : BitVec 32 := 0#32
  let c3_i32_205 : BitVec 32 := 3#32
  let v312 : BitVec 32 := Scalar.addi c0_i32_204 c3_i32_205
  let c1_i32_206 : BitVec 32 := 1#32
  ⟨c0_i32_204, v312, c1_i32_206⟩
def k0_mult9 (k0_t2 : Fin k0_t2_loop.trips) : BitVec 32 :=
  let c2_i32 : BitVec 32 := 2#32
  let c0_i32_204 : BitVec 32 := 0#32
  let c1_i32_206 : BitVec 32 := 1#32
  let arg12 : BitVec 32 := Scf.iv c0_i32_204 c1_i32_206 k0_t2
  let v517 : BitVec 32 := Scalar.muli c2_i32 arg12
  let c1_i32_341 : BitVec 32 := 1#32
  let v518 : BitVec 32 := Scalar.addi v517 c1_i32_341
  let c512_i32 : BitVec 32 := 512#32
  let v519 : BitVec 32 := Scalar.muli v518 c512_i32
  let c0_i32_342 : BitVec 32 := 0#32
  let v520 : BitVec 32 := Scalar.addi v519 c0_i32_342
  v520
def k0_mult10 (k0_t2 : Fin k0_t2_loop.trips) : BitVec 32 :=
  let c2_i32 : BitVec 32 := 2#32
  let c0_i32_204 : BitVec 32 := 0#32
  let c1_i32_206 : BitVec 32 := 1#32
  let arg12 : BitVec 32 := Scf.iv c0_i32_204 c1_i32_206 k0_t2
  let v517 : BitVec 32 := Scalar.muli c2_i32 arg12
  let c1_i32_341 : BitVec 32 := 1#32
  let v518 : BitVec 32 := Scalar.addi v517 c1_i32_341
  let c512_i32_343 : BitVec 32 := 512#32
  let v521 : BitVec 32 := Scalar.muli v518 c512_i32_343
  let c256_i32 : BitVec 32 := 256#32
  let v522 : BitVec 32 := Scalar.addi v521 c256_i32
  v522
def k0_off4 (k0_t2 : Fin k0_t2_loop.trips) (c1_i32_341 : BitVec 32) (c0_i32_342 : BitVec 32) : Fin 3 → Nat :=
  let c0_347 : Index := 0#32
  let c2_i32 : BitVec 32 := 2#32
  let c0_i32_204 : BitVec 32 := 0#32
  let c1_i32_206 : BitVec 32 := 1#32
  let arg12 : BitVec 32 := Scf.iv c0_i32_204 c1_i32_206 k0_t2
  let v517 : BitVec 32 := Scalar.muli c2_i32 arg12
  let v518 : BitVec 32 := Scalar.addi v517 c1_i32_341
  let c512_i32 : BitVec 32 := 512#32
  let v519 : BitVec 32 := Scalar.muli v518 c512_i32
  let v520 : BitVec 32 := Scalar.addi v519 c0_i32_342
  let v523 : BitVec 32 := v520
  let v527 : Index := Scalar.indexCast v523
  let c256_348 : Index := 256#32
  ![0, v527.toNat, 256]
def k0_mult11 (k0_t2 : Fin k0_t2_loop.trips) : BitVec 32 :=
  let c2_i32_366 : BitVec 32 := 2#32
  let c0_i32_204 : BitVec 32 := 0#32
  let c1_i32_206 : BitVec 32 := 1#32
  let arg12 : BitVec 32 := Scf.iv c0_i32_204 c1_i32_206 k0_t2
  let v557 : BitVec 32 := Scalar.muli c2_i32_366 arg12
  let c512_i32_367 : BitVec 32 := 512#32
  let v558 : BitVec 32 := Scalar.muli v557 c512_i32_367
  let c0_i32_368 : BitVec 32 := 0#32
  let v559 : BitVec 32 := Scalar.addi v558 c0_i32_368
  v559
def k0_mult12 (k0_t2 : Fin k0_t2_loop.trips) : BitVec 32 :=
  let c2_i32_366 : BitVec 32 := 2#32
  let c0_i32_204 : BitVec 32 := 0#32
  let c1_i32_206 : BitVec 32 := 1#32
  let arg12 : BitVec 32 := Scf.iv c0_i32_204 c1_i32_206 k0_t2
  let v557 : BitVec 32 := Scalar.muli c2_i32_366 arg12
  let c512_i32_369 : BitVec 32 := 512#32
  let v560 : BitVec 32 := Scalar.muli v557 c512_i32_369
  let c256_i32_370 : BitVec 32 := 256#32
  let v561 : BitVec 32 := Scalar.addi v560 c256_i32_370
  v561
def k0_off5 (k0_t2 : Fin k0_t2_loop.trips) (c0_i32_368 : BitVec 32) : Fin 3 → Nat :=
  let c0_386 : Index := 0#32
  let c2_i32_366 : BitVec 32 := 2#32
  let c0_i32_204 : BitVec 32 := 0#32
  let c1_i32_206 : BitVec 32 := 1#32
  let arg12 : BitVec 32 := Scf.iv c0_i32_204 c1_i32_206 k0_t2
  let v557 : BitVec 32 := Scalar.muli c2_i32_366 arg12
  let c512_i32_367 : BitVec 32 := 512#32
  let v558 : BitVec 32 := Scalar.muli v557 c512_i32_367
  let v559 : BitVec 32 := Scalar.addi v558 c0_i32_368
  let v562 : BitVec 32 := v559
  let v591 : Index := Scalar.indexCast v562
  let c128_387 : Index := 128#32
  ![0, v591.toNat, 128]
def k0_mult13 (k0_t2 : Fin k0_t2_loop.trips) : BitVec 32 :=
  let c2_i32_405 : BitVec 32 := 2#32
  let c0_i32_204 : BitVec 32 := 0#32
  let c1_i32_206 : BitVec 32 := 1#32
  let arg12 : BitVec 32 := Scf.iv c0_i32_204 c1_i32_206 k0_t2
  let v626 : BitVec 32 := Scalar.muli c2_i32_405 arg12
  let c2_i32_406 : BitVec 32 := 2#32
  let v627 : BitVec 32 := Scalar.addi v626 c2_i32_406
  let c512_i32_407 : BitVec 32 := 512#32
  let v628 : BitVec 32 := Scalar.muli v627 c512_i32_407
  let c0_i32_408 : BitVec 32 := 0#32
  let v629 : BitVec 32 := Scalar.addi v628 c0_i32_408
  v629
def k0_mult14 (k0_t2 : Fin k0_t2_loop.trips) : BitVec 32 :=
  let c2_i32_405 : BitVec 32 := 2#32
  let c0_i32_204 : BitVec 32 := 0#32
  let c1_i32_206 : BitVec 32 := 1#32
  let arg12 : BitVec 32 := Scf.iv c0_i32_204 c1_i32_206 k0_t2
  let v626 : BitVec 32 := Scalar.muli c2_i32_405 arg12
  let c2_i32_406 : BitVec 32 := 2#32
  let v627 : BitVec 32 := Scalar.addi v626 c2_i32_406
  let c512_i32_409 : BitVec 32 := 512#32
  let v630 : BitVec 32 := Scalar.muli v627 c512_i32_409
  let c256_i32_410 : BitVec 32 := 256#32
  let v631 : BitVec 32 := Scalar.addi v630 c256_i32_410
  v631
def k0_mult15 (k0_t2 : Fin k0_t2_loop.trips) : BitVec 32 :=
  let c2_i32_433 : BitVec 32 := 2#32
  let c0_i32_204 : BitVec 32 := 0#32
  let c1_i32_206 : BitVec 32 := 1#32
  let arg12 : BitVec 32 := Scf.iv c0_i32_204 c1_i32_206 k0_t2
  let v666 : BitVec 32 := Scalar.muli c2_i32_433 arg12
  let c1_i32_434 : BitVec 32 := 1#32
  let v667 : BitVec 32 := Scalar.addi v666 c1_i32_434
  let c512_i32_435 : BitVec 32 := 512#32
  let v668 : BitVec 32 := Scalar.muli v667 c512_i32_435
  let c0_i32_436 : BitVec 32 := 0#32
  let v669 : BitVec 32 := Scalar.addi v668 c0_i32_436
  v669
def k0_mult16 (k0_t2 : Fin k0_t2_loop.trips) : BitVec 32 :=
  let c2_i32_433 : BitVec 32 := 2#32
  let c0_i32_204 : BitVec 32 := 0#32
  let c1_i32_206 : BitVec 32 := 1#32
  let arg12 : BitVec 32 := Scf.iv c0_i32_204 c1_i32_206 k0_t2
  let v666 : BitVec 32 := Scalar.muli c2_i32_433 arg12
  let c1_i32_434 : BitVec 32 := 1#32
  let v667 : BitVec 32 := Scalar.addi v666 c1_i32_434
  let c512_i32_437 : BitVec 32 := 512#32
  let v670 : BitVec 32 := Scalar.muli v667 c512_i32_437
  let c256_i32_438 : BitVec 32 := 256#32
  let v671 : BitVec 32 := Scalar.addi v670 c256_i32_438
  v671
def k0_off6 (k0_t2 : Fin k0_t2_loop.trips) (c0_i32_436 : BitVec 32) : Fin 3 → Nat :=
  let c0_454 : Index := 0#32
  let c2_i32_433 : BitVec 32 := 2#32
  let c0_i32_204 : BitVec 32 := 0#32
  let c1_i32_206 : BitVec 32 := 1#32
  let arg12 : BitVec 32 := Scf.iv c0_i32_204 c1_i32_206 k0_t2
  let v666 : BitVec 32 := Scalar.muli c2_i32_433 arg12
  let c1_i32_434 : BitVec 32 := 1#32
  let v667 : BitVec 32 := Scalar.addi v666 c1_i32_434
  let c512_i32_435 : BitVec 32 := 512#32
  let v668 : BitVec 32 := Scalar.muli v667 c512_i32_435
  let v669 : BitVec 32 := Scalar.addi v668 c0_i32_436
  let v672 : BitVec 32 := v669
  let v701 : Index := Scalar.indexCast v672
  let c128_455 : Index := 128#32
  ![0, v701.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4112x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4112x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4112x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x4112x4x192 : Shape := ⟨4, ![16, 4112, 4, 192]⟩
abbrev S16x4112x4x128 : Shape := ⟨4, ![16, 4112, 4, 128]⟩
abbrev S_ : Shape := ⟨0, ![]⟩
abbrev S16x4x4112x4112 : Shape := ⟨4, ![16, 4, 4112, 4112]⟩
abbrev S16x4x4112 : Shape := ⟨3, ![16, 4, 4112]⟩
abbrev S16x4x4112x1 : Shape := ⟨4, ![16, 4, 4112, 1]⟩
abbrev S16x4x128x4112 : Shape := ⟨4, ![16, 4, 128, 4112]⟩
abbrev S16x4112x512 : Shape := ⟨3, ![16, 4112, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x4112x4x192, .f32⟩
  | .hbm, ⟨1, _⟩ => ⟨S16x4112x4x192, .f32⟩
  | .hbm, ⟨2, _⟩ => ⟨S16x4112x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x4x4112x4112, .f32⟩
  | .hbm, ⟨8, _⟩ => ⟨S16x4x4112x4112, .f32⟩
  | .hbm, ⟨9, _⟩ => ⟨S16x4x4112x4112, .f32⟩
  | .hbm, ⟨10, _⟩ => ⟨S_, .f32⟩
  | .hbm, ⟨11, _⟩ => ⟨S16x4x4112, .f32⟩
  | .hbm, ⟨12, _⟩ => ⟨S_, .f32⟩
  | .hbm, ⟨13, _⟩ => ⟨S16x4x4112, .f32⟩
  | .hbm, ⟨14, _⟩ => ⟨S16x4x4112, .f32⟩
  | .hbm, ⟨15, _⟩ => ⟨S16x4x4112x1, .f32⟩
  | .hbm, ⟨16, _⟩ => ⟨S16x4x4112x4112, .f32⟩
  | .hbm, ⟨17, _⟩ => ⟨S16x4x4112x4112, .f32⟩
  | .hbm, ⟨18, _⟩ => ⟨S16x4x4112x4112, .f32⟩
  | .hbm, ⟨19, _⟩ => ⟨S_, .f32⟩
  | .hbm, ⟨20, _⟩ => ⟨S16x4x4112, .f32⟩
  | .hbm, ⟨21, _⟩ => ⟨S16x4x4112x1, .f32⟩
  | .hbm, ⟨22, _⟩ => ⟨S16x4x4112x4112, .f32⟩
  | .hbm, ⟨23, _⟩ => ⟨S16x4x4112x4112, .f32⟩
  | .hbm, ⟨24, _⟩ => ⟨S16x4x128x4112, .f32⟩
  | .hbm, ⟨25, _⟩ => ⟨S16x4112x4x128, .f32⟩
  | .hbm, ⟨26, _⟩ => ⟨S16x4112x512, .f32⟩
  | _, _ => ⟨S16x4112x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel2.lean ====
abbrev S16x4112x256 : Shape := ⟨3, ![16, 4112, 256]⟩
abbrev S16x4112x512 : Shape := ⟨3, ![16, 4112, 512]⟩
abbrev S16x4112x1024 : Shape := ⟨3, ![16, 4112, 1024]⟩
abbrev S1024x1024 : Shape := ⟨2, ![1024, 1024]⟩
abbrev S1024 : Shape := ⟨1, ![1024]⟩
abbrev S65792x256 : Shape := ⟨2, ![65792, 256]⟩
abbrev S65792x512 : Shape := ⟨2, ![65792, 512]⟩
abbrev S65792x1024 : Shape := ⟨2, ![65792, 1024]⟩
abbrev S1x1024 : Shape := ⟨2, ![1, 1024]⟩
abbrev S16x4096x1024 : Shape := ⟨3, ![16, 4096, 1024]⟩
abbrev S1024x256 : Shape := ⟨2, ![1024, 256]⟩
abbrev S1024x512 : Shape := ⟨2, ![1024, 512]⟩
abbrev S1x1024x1024 : Shape := ⟨3, ![1, 1024, 1024]⟩
abbrev S1024x1 : Shape := ⟨2, ![1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S16x4112x256, .f32⟩
  | .hbm, ⟨1, _⟩ => ⟨S16x4112x256, .f32⟩
  | .hbm, ⟨2, _⟩ => ⟨S16x4112x512, .f32⟩
  | .hbm, ⟨3, _⟩ => ⟨S16x4112x1024, .f32⟩
  | .hbm, ⟨4, _⟩ => ⟨S16x4112x1024, .f32⟩
  | .hbm, ⟨5, _⟩ => ⟨S1024x1024, .f32⟩
  | .hbm, ⟨6, _⟩ => ⟨S1024, .f32⟩
  | .hbm, ⟨7, _⟩ => ⟨S16x4112x256, .bf16⟩
  | .hbm, ⟨8, _⟩ => ⟨S65792x256, .bf16⟩
  | .hbm, ⟨9, _⟩ => ⟨S16x4112x256, .bf16⟩
  | .hbm, ⟨10, _⟩ => ⟨S65792x256, .bf16⟩
  | .hbm, ⟨11, _⟩ => ⟨S16x4112x512, .bf16⟩
  | .hbm, ⟨12, _⟩ => ⟨S65792x512, .bf16⟩
  | .hbm, ⟨13, _⟩ => ⟨S16x4112x1024, .bf16⟩
  | .hbm, ⟨14, _⟩ => ⟨S65792x1024, .bf16⟩
  | .hbm, ⟨15, _⟩ => ⟨S65792x1024, .f32⟩
  | .hbm, ⟨16, _⟩ => ⟨S1024x1024, .bf16⟩
  | .hbm, ⟨17, _⟩ => ⟨S1x1024, .f32⟩
  | .hbm, ⟨18, _⟩ => ⟨S16x4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S16x4112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg0 : BitVec 32 := BitVec.ofNat 32 (i 0).val
  let c4112_i32 : BitVec 32 := 4112#32
  let v0 : BitVec 32 := Scalar.muli arg0 c4112_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult2 (i : grid0.Coords) : BitVec 32 :=
  let arg0 : BitVec 32 := BitVec.ofNat 32 (i 0).val
  let c4112_i32 : BitVec 32 := 4112#32
  let v0 : BitVec 32 := Scalar.muli arg0 c4112_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult3 (i : grid0.Coords) : BitVec 32 :=
  let arg0 : BitVec 32 := BitVec.ofNat 32 (i 0).val
  let c4112_i32 : BitVec 32 := 4112#32
  let v0 : BitVec 32 := Scalar.muli arg0 c4112_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult4 (i : grid0.Coords) : BitVec 32 :=
  let arg0 : BitVec 32 := BitVec.ofNat 32 (i 0).val
  let c4112_i32 : BitVec 32 := 4112#32
  let v0 : BitVec 32 := Scalar.muli arg0 c4112_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult5 (i : grid0.Coords) : BitVec 32 :=
  let arg0 : BitVec 32 := BitVec.ofNat 32 (i 0).val
  let c4112_i32 : BitVec 32 := 4112#32
  let v0 : BitVec 32 := Scalar.muli arg0 c4112_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c4112_i32 : BitVec 32 := 4112#32
  let v0 : BitVec 32 := Scalar.muli arg0 c4112_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c4112_i32 : BitVec 32 := 4112#32
  let v0 : BitVec 32 := Scalar.muli arg0 c4112_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c4112_i32 : BitVec 32 := 4112#32
  let v0 : BitVec 32 := Scalar.muli arg0 c4112_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c4112_i32 : BitVec 32 := 4112#32
  let v0 : BitVec 32 := Scalar.muli arg0 c4112_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c4112_i32 : BitVec 32 := 4112#32
  let v0 : BitVec 32 := Scalar.muli arg0 c4112_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x4112x256 : Shape := ⟨3, ![16, 4112, 256]⟩
abbrev S16x4112x512 : Shape := ⟨3, ![16, 4112, 512]⟩
abbrev S16x4112x1024 : Shape := ⟨3, ![16, 4112, 1024]⟩
abbrev S1024x1024 : Shape := ⟨2, ![1024, 1024]⟩
abbrev S1024 : Shape := ⟨1, ![1024]⟩
abbrev S_ : Shape := ⟨0, ![]⟩
abbrev S16x4112 : Shape := ⟨2, ![16, 4112]⟩
abbrev S16x4112x1 : Shape := ⟨3, ![16, 4112, 1]⟩
abbrev S1x1x1024 : Shape := ⟨3, ![1, 1, 1024]⟩
abbrev S16x4096x1024 : Shape := ⟨3, ![16, 4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16x4112x256, .f32⟩
  | .hbm, ⟨1, _⟩ => ⟨S16x4112x256, .f32⟩
  | .hbm, ⟨2, _⟩ => ⟨S16x4112x512, .f32⟩
  | .hbm, ⟨3, _⟩ => ⟨S16x4112x1024, .f32⟩
  | .hbm, ⟨4, _⟩ => ⟨S16x4112x1024, .f32⟩
  | .hbm, ⟨5, _⟩ => ⟨S1024x1024, .f32⟩
  | .hbm, ⟨6, _⟩ => ⟨S1024, .f32⟩
  | .hbm, ⟨7, _⟩ => ⟨S16x4112x256, .f32⟩
  | .hbm, ⟨8, _⟩ => ⟨S16x4112x256, .f32⟩
  | .hbm, ⟨9, _⟩ => ⟨S16x4112x256, .f32⟩
  | .hbm, ⟨10, _⟩ => ⟨S16x4112x256, .f32⟩
  | .hbm, ⟨11, _⟩ => ⟨S16x4112x512, .f32⟩
  | .hbm, ⟨12, _⟩ => ⟨S16x4112x512, .f32⟩
  | .hbm, ⟨13, _⟩ => ⟨S16x4112x1024, .f32⟩
  | .hbm, ⟨14, _⟩ => ⟨S16x4112x1024, .f32⟩
  | .hbm, ⟨15, _⟩ => ⟨S16x4112x1024, .f32⟩
  | .hbm, ⟨16, _⟩ => ⟨S16x4112x1024, .f32⟩
  | .hbm, ⟨17, _⟩ => ⟨S_, .f32⟩
  | .hbm, ⟨18, _⟩ => ⟨S16x4112, .f32⟩
  | .hbm, ⟨19, _⟩ => ⟨S16x4112x1, .f32⟩
  | .hbm, ⟨20, _⟩ => ⟨S_, .f32⟩
  | .hbm, ⟨21, _⟩ => ⟨S16x4112x1, .f32⟩
  | .hbm, ⟨22, _⟩ => ⟨S16x4112x1, .f32⟩
  | .hbm, ⟨23, _⟩ => ⟨S_, .f32⟩
  | .hbm, ⟨24, _⟩ => ⟨S16x4112x1, .f32⟩
  | .hbm, ⟨25, _⟩ => ⟨S16x4112x1, .f32⟩
  | .hbm, ⟨26, _⟩ => ⟨S16x4112x1, .f32⟩
  | .hbm, ⟨27, _⟩ => ⟨S16x4112x1024, .f32⟩
  | .hbm, ⟨28, _⟩ => ⟨S16x4112x1024, .f32⟩
  | .hbm, ⟨29, _⟩ => ⟨S1x1x1024, .f32⟩
  | .hbm, ⟨30, _⟩ => ⟨S16x4112x1024, .f32⟩
  | .hbm, ⟨31, _⟩ => ⟨S16x4112x1024, .f32⟩
  | .hbm, ⟨32, _⟩ => ⟨S16x4096x1024, .f32⟩
  | _, _ => ⟨S16x4112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel3.lean ====
abbrev S16x4112x256 : Shape := ⟨3, ![16, 4112, 256]⟩
abbrev S16x4112x512 : Shape := ⟨3, ![16, 4112, 512]⟩
abbrev S16x4112x1024 : Shape := ⟨3, ![16, 4112, 1024]⟩
abbrev S1024x1024 : Shape := ⟨2, ![1024, 1024]⟩
abbrev S1024 : Shape := ⟨1, ![1024]⟩
abbrev S1024x2240 : Shape := ⟨2, ![1024, 2240]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S65792x256 : Shape := ⟨2, ![65792, 256]⟩
abbrev S65792x512 : Shape := ⟨2, ![65792, 512]⟩
abbrev S65792x1024 : Shape := ⟨2, ![65792, 1024]⟩
abbrev S1x1024x2240 : Shape := ⟨3, ![1, 1024, 2240]⟩
abbrev S1x384x768 : Shape := ⟨3, ![1, 384, 768]⟩
abbrev S1x256x1024 : Shape := ⟨3, ![1, 256, 1024]⟩
abbrev S1x1024x256 : Shape := ⟨3, ![1, 1024, 256]⟩
abbrev S1x1024x384 : Shape := ⟨3, ![1, 1024, 384]⟩
abbrev S1x1024x64 : Shape := ⟨3, ![1, 1024, 64]⟩
abbrev S1x1024x512 : Shape := ⟨3, ![1, 1024, 512]⟩
abbrev S1x1024x32 : Shape := ⟨3, ![1, 1024, 32]⟩
abbrev S1x1024x2432 : Shape := ⟨3, ![1, 1024, 2432]⟩
abbrev S1x384x4x192 : Shape := ⟨4, ![1, 384, 4, 192]⟩
abbrev S1x384x4x64 : Shape := ⟨4, ![1, 384, 4, 64]⟩
abbrev S1x384x4x128 : Shape := ⟨4, ![1, 384, 4, 128]⟩
abbrev S1x384x512 : Shape := ⟨3, ![1, 384, 512]⟩
abbrev S1x384x256 : Shape := ⟨3, ![1, 384, 256]⟩
abbrev S1x384x4x32 : Shape := ⟨4, ![1, 384, 4, 32]⟩
abbrev S1x384x1024 : Shape := ⟨3, ![1, 384, 1024]⟩
abbrev S1x256x4x256 : Shape := ⟨4, ![1, 256, 4, 256]⟩
abbrev S1x256x4x128 : Shape := ⟨4, ![1, 256, 4, 128]⟩
abbrev S1x256x512 : Shape := ⟨3, ![1, 256, 512]⟩
abbrev S32 : Shape := ⟨1, ![32]⟩
abbrev S_ : Shape := ⟨0, ![]⟩
abbrev S4624 : Shape := ⟨1, ![4624]⟩
abbrev S4624x1 : Shape := ⟨2, ![4624, 1]⟩
abbrev S1x32 : Shape := ⟨2, ![1, 32]⟩
abbrev S4624x32 : Shape := ⟨2, ![4624, 32]⟩
abbrev S1x4624x1x32 : Shape := ⟨4, ![1, 4624, 1, 32]⟩
abbrev S1x4624x4x32 : Shape := ⟨4, ![1, 4624, 4, 32]⟩
abbrev S4624x128 : Shape := ⟨2, ![4624, 128]⟩
abbrev S4624x64 : Shape := ⟨2, ![4624, 64]⟩
abbrev S1x4624x1x64 : Shape := ⟨4, ![1, 4624, 1, 64]⟩
abbrev S1x4624x2x64 : Shape := ⟨4, ![1, 4624, 2, 64]⟩
abbrev S1x1024 : Shape := ⟨2, ![1, 1024]⟩
abbrev S1024x2432 : Shape := ⟨2, ![1024, 2432]⟩
abbrev S1x384 : Shape := ⟨2, ![1, 384]⟩
abbrev S384x1024 : Shape := ⟨2, ![384, 1024]⟩
abbrev S1x256 : Shape := ⟨2, ![1, 256]⟩
abbrev S512x256 : Shape := ⟨2, ![512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S1024x384 : Shape := ⟨2, ![1024, 384]⟩
abbrev S512x384 : Shape := ⟨2, ![512, 384]⟩
abbrev S1024x256 : Shape := ⟨2, ![1024, 256]⟩

abbrev nBuf : Space → Nat
  | .hbm => 126
  | .vmem => 31
  | .smem => 0
  | _ => 0

abbrev bufTy : (tb : Table) → Fin (tcTables nBuf tb) → BufTy
  | .hbm, ⟨0, _⟩ => ⟨S16x4112x256, .f32⟩
  | .hbm, ⟨1, _⟩ => ⟨S16x4112x256, .f32⟩
  | .hbm, ⟨2, _⟩ => ⟨S16x4112x512, .f32⟩
  | .hbm, ⟨3, _⟩ => ⟨S16x4112x1024, .f32⟩
  | .hbm, ⟨4, _⟩ => ⟨S16x4112x1024, .f32⟩
  | .hbm, ⟨5, _⟩ => ⟨S1024x1024, .f32⟩
  | .hbm, ⟨6, _⟩ => ⟨S1024, .f32⟩
  | .hbm, ⟨7, _⟩ => ⟨S1024x2240, .f32⟩
  | .hbm, ⟨8, _⟩ => ⟨S384, .f32⟩
  | .hbm, ⟨9, _⟩ => ⟨S384x768, .f32⟩
  | .hbm, ⟨10, _⟩ => ⟨S256, .f32⟩
  | .hbm, ⟨11, _⟩ => ⟨S256x1024, .f32⟩
  | .hbm, ⟨12, _⟩ => ⟨S16x4112x256, .bf16⟩
  | .hbm, ⟨13, _⟩ => ⟨S65792x256, .bf16⟩
  | .hbm, ⟨14, _⟩ => ⟨S16x4112x256, .bf16⟩
  | .hbm, ⟨15, _⟩ => ⟨S65792x256, .bf16⟩
  | .hbm, ⟨16, _⟩ => ⟨S16x4112x512, .bf16⟩
  | .hbm, ⟨17, _⟩ => ⟨S65792x512, .bf16⟩
  | .hbm, ⟨18, _⟩ => ⟨S16x4112x1024, .bf16⟩
  | .hbm, ⟨19, _⟩ => ⟨S65792x1024, .bf16⟩
  | .hbm, ⟨20, _⟩ => ⟨S1x1024x2240, .f32⟩
  | .hbm, ⟨21, _⟩ => ⟨S1x384x768, .f32⟩
  | .hbm, ⟨22, _⟩ => ⟨S1x256x1024, .f32⟩
  | .hbm, ⟨23, _⟩ => ⟨S1x1024x256, .f32⟩
  | .hbm, ⟨24, _⟩ => ⟨S1x1024x256, .f32⟩
  | .hbm, ⟨25, _⟩ => ⟨S1x1024x256, .f32⟩
  | .hbm, ⟨26, _⟩ => ⟨S1x1024x256, .f32⟩
  | .hbm, ⟨27, _⟩ => ⟨S1x1024x384, .f32⟩
  | .hbm, ⟨28, _⟩ => ⟨S1x1024x256, .f32⟩
  | .hbm, ⟨29, _⟩ => ⟨S1x1024x64, .f32⟩
  | .hbm, ⟨30, _⟩ => ⟨S1x1024x512, .f32⟩
  | .hbm, ⟨31, _⟩ => ⟨S1x1024x32, .f32⟩
  | .hbm, ⟨32, _⟩ => ⟨S1x1024x32, .f32⟩
  | .hbm, ⟨33, _⟩ => ⟨S1x1024x64, .f32⟩
  | .hbm, ⟨34, _⟩ => ⟨S1x1024x32, .f32⟩
  | .hbm, ⟨35, _⟩ => ⟨S1x1024x32, .f32⟩
  | .hbm, ⟨36, _⟩ => ⟨S1x1024x64, .f32⟩
  | .hbm, ⟨37, _⟩ => ⟨S1x1024x2432, .f32⟩
  | .hbm, ⟨38, _⟩ => ⟨S1x1024x2432, .bf16⟩
  | .hbm, ⟨39, _⟩ => ⟨S1x384x4x192, .f32⟩
  | .hbm, ⟨40, _⟩ => ⟨S1x384x4x64, .f32⟩
  | .hbm, ⟨41, _⟩ => ⟨S1x384x4x128, .f32⟩
  | .hbm, ⟨42, _⟩ => ⟨S1x384x512, .f32⟩
  | .hbm, ⟨43, _⟩ => ⟨S1x384x256, .f32⟩
  | .hbm, ⟨44, _⟩ => ⟨S1x384x4x32, .f32⟩
  | .hbm, ⟨45, _⟩ => ⟨S1x384x4x32, .f32⟩
  | .hbm, ⟨46, _⟩ => ⟨S1x384x4x64, .f32⟩
  | .hbm, ⟨47, _⟩ => ⟨S1x384x256, .f32⟩
  | .hbm, ⟨48, _⟩ => ⟨S1x384x1024, .f32⟩
  | .hbm, ⟨49, _⟩ => ⟨S1x384x1024, .bf16⟩
  | .hbm, ⟨50, _⟩ => ⟨S1x256x4x256, .f32⟩
  | .hbm, ⟨51, _⟩ => ⟨S1x256x4x128, .f32⟩
  | .hbm, ⟨52, _⟩ => ⟨S1x256x512, .f32⟩
  | .hbm, ⟨53, _⟩ => ⟨S1x256x4x128, .f32⟩
  | .hbm, ⟨54, _⟩ => ⟨S1x256x512, .f32⟩
  | .hbm, ⟨55, _⟩ => ⟨S1x256x1024, .f32⟩
  | .hbm, ⟨56, _⟩ => ⟨S1x256x1024, .bf16⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S4624, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S4624, .i32⟩
  | .hbm, ⟨81, _⟩ => ⟨S4624, .i32⟩
  | .hbm, ⟨82, _⟩ => ⟨S_, .i32⟩
  | .hbm, ⟨83, _⟩ => ⟨S4624, .i32⟩
  | .hbm, ⟨84, _⟩ => ⟨S4624, .i1⟩
  | .hbm, ⟨85, _⟩ => ⟨S_, .i32⟩
  | .hbm, ⟨86, _⟩ => ⟨S4624, .i32⟩
  | .hbm, ⟨87, _⟩ => ⟨S4624, .i1⟩
  | .hbm, ⟨88, _⟩ => ⟨S_, .i32⟩
  | .hbm, ⟨89, _⟩ => ⟨S_, .i1⟩
  | .hbm, ⟨90, _⟩ => ⟨S4624, .i1⟩
  | .hbm, ⟨91, _⟩ => ⟨S4624, .i1⟩
  | .hbm, ⟨92, _⟩ => ⟨S4624, .i1⟩
  | .hbm, ⟨93, _⟩ => ⟨S4624, .i32⟩
  | .hbm, ⟨94, _⟩ => ⟨S4624, .i32⟩
  | .hbm, ⟨95, _⟩ => ⟨S4624, .i32⟩
  | .hbm, ⟨96, _⟩ => ⟨S4624, .f32⟩
  | .hbm, ⟨97, _⟩ => ⟨S4624x1, .f32⟩
  | .hbm, ⟨98, _⟩ => ⟨S1x32, .f32⟩
  | .hbm, ⟨99, _⟩ => ⟨S4624x32, .f32⟩
  | .hbm, ⟨100, _⟩ => ⟨S4624x32, .f32⟩
  | .hbm, ⟨101, _⟩ => ⟨S4624x32, .f32⟩
  | .hbm, ⟨102, _⟩ => ⟨S4624x32, .f32⟩
  | .hbm, ⟨103, _⟩ => ⟨S4624x32, .f32⟩
  | .hbm, ⟨104, _⟩ => ⟨S1x4624x1x32, .f32⟩
  | .hbm, ⟨105, _⟩ => ⟨S1x4624x4x32, .f32⟩
  | .hbm, ⟨106, _⟩ => ⟨S4624x128, .f32⟩
  | .hbm, ⟨107, _⟩ => ⟨S4624x32, .f32⟩
  | .hbm, ⟨108, _⟩ => ⟨S4624x64, .f32⟩
  | .hbm, ⟨109, _⟩ => ⟨S1x4624x1x64, .f32⟩
  | .hbm, ⟨110, _⟩ => ⟨S1x4624x2x64, .f32⟩
  | .hbm, ⟨111, _⟩ => ⟨S4624x128, .f32⟩
  | .hbm, ⟨112, _⟩ => ⟨S1x1024, .f32⟩
  | .hbm, ⟨113, _⟩ => ⟨S1024x2432, .bf16⟩
  | .hbm, ⟨114, _⟩ => ⟨S1x384, .f32⟩
  | .hbm, ⟨115, _⟩ => ⟨S384x1024, .bf16⟩
  | .hbm, ⟨116, _⟩ => ⟨S1x256, .f32⟩
  | .hbm, ⟨117, _⟩ => ⟨S256x1024, .bf16⟩
  | .hbm, ⟨118, _⟩ => ⟨S65792x1024, .f32⟩
  | .hbm, ⟨119, _⟩ => ⟨S1024x1024, .bf16⟩
  | .hbm, ⟨120, _⟩ => ⟨S65792x1024, .f32⟩
  | .hbm, ⟨121, _⟩ => ⟨S65792x512, .f32⟩
  | .hbm, ⟨122, _⟩ => ⟨S65792x1024, .bf16⟩
  | .hbm, ⟨123, _⟩ => ⟨S65792x1024, .bf16⟩
  | .hbm, ⟨124, _⟩ => ⟨S65792x1024, .bf16⟩
  | .hbm, ⟨125, _⟩ => ⟨S65792x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S1024x2432, .bf16⟩
  | .local _ .vmem, ⟨13, _⟩ => ⟨S1x384, .f32⟩
  | .local _ .vmem, ⟨14, _⟩ => ⟨S384x1024, .bf16⟩
  | .local _ .vmem, ⟨15, _⟩ => ⟨S1x256, .f32⟩
  | .local _ .vmem, ⟨16, _⟩ => ⟨S256x1024, .bf16⟩
  | .local _ .vmem, ⟨17, _⟩ => ⟨S4624x128, .f32⟩
  | .local _ .vmem, ⟨18, _⟩ => ⟨S4624x128, .f32⟩
  | .local _ .vmem, ⟨19, _⟩ => ⟨S512x1024, .f32⟩
  | .local _ .vmem, ⟨20, _⟩ => ⟨S512x1024, .f32⟩
  | .local _ .vmem, ⟨21, _⟩ => ⟨S512x512, .f32⟩
  | .local _ .vmem, ⟨22, _⟩ => ⟨S512x512, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x512, .bf16⟩
  | .local _ .vmem, ⟨30, _⟩ => ⟨S512x512, .bf16⟩
  | _, _ => ⟨S16x4112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst : Ref sig .tc := ⟨.hbm, 58, rfl⟩
abbrev main_v46 : Ref sig .tc := ⟨.hbm, 59, rfl⟩
abbrev main_v47 : Ref sig .tc := ⟨.hbm, 60, rfl⟩
abbrev main_cst_0 : Ref sig .tc := ⟨.hbm, 61, rfl⟩
abbrev main_v48 : Ref sig .tc := ⟨.hbm, 62, rfl⟩
abbrev main_v49 : Ref sig .tc := ⟨.hbm, 63, rfl⟩
abbrev main_cst_1 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_cst_3 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_c_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_1 : Ref sig .tc := ⟨.hbm, 82, rfl⟩
abbrev main_call0_v5 : Ref sig .tc := ⟨.hbm, 83, rfl⟩
abbrev main_call0_v6 : Ref sig .tc := ⟨.hbm, 84, rfl⟩
abbrev main_call0_c_2 : Ref sig .tc := ⟨.hbm, 85, rfl⟩
abbrev main_call0_v7 : Ref sig .tc := ⟨.hbm, 86, rfl⟩
abbrev main_call0_v8 : Ref sig .tc := ⟨.hbm, 87, rfl⟩
abbrev main_call0_c_3 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_v12 : Ref sig .tc := ⟨.hbm, 92, rfl⟩
abbrev main_call0_v13 : Ref sig .tc := ⟨.hbm, 93, rfl⟩
abbrev main_call0_v14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82_0 : Ref sig .tc := ⟨.hbm, 120, rfl⟩
abbrev main_v82_1 : Ref sig .tc := ⟨.hbm, 121, rfl⟩
abbrev main_v82_2 : Ref sig .tc := ⟨.hbm, 122, rfl⟩
abbrev main_v82_3 : Ref sig .tc := ⟨.hbm, 123, rfl⟩
abbrev main_v82_4 : Ref sig .tc := ⟨.hbm, 124, rfl⟩
abbrev main_v82_5 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![129], ![false]⟩

def k0_mult1 (i : grid0.Coords) : BitVec 32 :=
  let arg0 : BitVec 32 := BitVec.ofNat 32 (i 0).val
  let c512_i32 : BitVec 32 := 512#32
  let v50 : BitVec 32 := Scalar.muli arg0 c512_i32
  let c4112_i32 : BitVec 32 := 4112#32
  let v51 : BitVec 32 := Scalar.remsi v50 c4112_i32
  v51
def k0_off1 (i : grid0.Coords) : Fin 2 → Nat :=
  let arg0 : BitVec 32 := BitVec.ofNat 32 (i 0).val
  let c512_i32 : BitVec 32 := 512#32
  let v50 : BitVec 32 := Scalar.muli arg0 c512_i32
  let c4112_i32 : BitVec 32 := 4112#32
  let v51 : BitVec 32 := Scalar.remsi v50 c4112_i32
  let v52 : BitVec 32 := v51
  let v53 : Index := Scalar.indexCast v52
  let c0_29 : Index := 0#32
  ![v53.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4624x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4624x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16x4112x256 : Shape := ⟨3, ![16, 4112, 256]⟩
abbrev S16x4112x512 : Shape := ⟨3, ![16, 4112, 512]⟩
abbrev S16x4112x1024 : Shape := ⟨3, ![16, 4112, 1024]⟩
abbrev S1024x1024 : Shape := ⟨2, ![1024, 1024]⟩
abbrev S1024 : Shape := ⟨1, ![1024]⟩
abbrev S1024x2240 : Shape := ⟨2, ![1024, 2240]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S65792x1024 : Shape := ⟨2, ![65792, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x4112x256, .f32⟩
  | .hbm, ⟨1, _⟩ => ⟨S16x4112x256, .f32⟩
  | .hbm, ⟨2, _⟩ => ⟨S16x4112x512, .f32⟩
  | .hbm, ⟨3, _⟩ => ⟨S16x4112x1024, .f32⟩
  | .hbm, ⟨4, _⟩ => ⟨S16x4112x1024, .f32⟩
  | .hbm, ⟨5, _⟩ => ⟨S1024x1024, .f32⟩
  | .hbm, ⟨6, _⟩ => ⟨S1024, .f32⟩
  | .hbm, ⟨7, _⟩ => ⟨S1024x2240, .f32⟩
  | .hbm, ⟨8, _⟩ => ⟨S384, .f32⟩
  | .hbm, ⟨9, _⟩ => ⟨S384x768, .f32⟩
  | .hbm, ⟨10, _⟩ => ⟨S256, .f32⟩
  | .hbm, ⟨11, _⟩ => ⟨S256x1024, .f32⟩
  | .hbm, ⟨12, _⟩ => ⟨S16x4112x256, .f32⟩
  | .hbm, ⟨13, _⟩ => ⟨S16x4112x256, .f32⟩
  | .hbm, ⟨14, _⟩ => ⟨S16x4112x256, .f32⟩
  | .hbm, ⟨15, _⟩ => ⟨S16x4112x256, .f32⟩
  | .hbm, ⟨16, _⟩ => ⟨S16x4112x512, .f32⟩
  | .hbm, ⟨17, _⟩ => ⟨S16x4112x512, .f32⟩
  | .hbm, ⟨18, _⟩ => ⟨S16x4112x1024, .f32⟩
  | .hbm, ⟨19, _⟩ => ⟨S16x4112x1024, .f32⟩
  | .hbm, ⟨20, _⟩ => ⟨S16x4112x1024, .f32⟩
  | .hbm, ⟨21, _⟩ => ⟨S65792x1024, .f32⟩
  | _, _ => ⟨S16x4112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Proof.Spec.lean ====
/-
  What one grid point of the attention leaves in its output block, as a function of the point's query, key and value blocks:
  the score buffer of one tile of 256 queries, the transposed values with their rows of ones, and a tile's weighted rows.
-/
module

public import proofs.«01_k».proof.Proof.Gen.KernelIdeal.Skeleton
public import Idealize.ShloMosaic.Lib.Pipeline.FrameBody
public import Idealize.ShloMosaic.Lib.WritesUnit
public import Idealize.ShloMosaic.Lib.ValueIdx

@[expose] public section

noncomputable section

namespace Cert.KernelIdeal.Hand

open Cert.KernelIdeal Cert.KernelIdeal.Gen
open Idealize.ShloMosaic Idealize.ShloMosaic.ValueIdx

variable {F : FTy → Type} [FloatOps F]

/-- The block of a rank-3 array that starts at the given coordinates (coordinates taken modulo the array's extents, so that
    the block is defined at every start). -/
def blk {α : Type} {n0 n1 n2 m0 m1 m2 : ℕ} [NeZero n0] [NeZero n1] [NeZero n2] (X : (⟨3, ![n0, n1, n2]⟩ : Shape).Idx → α) (b r l : ℕ) :
    (⟨3, ![m0, m1, m2]⟩ : Shape).Idx → α :=
  fun x => X (ix3 (Fin.ofNat n0 (b + (x 0).val)) (Fin.ofNat n1 (r + (x 1).val)) (Fin.ofNat n2 (l + (x 2).val)))

/-- A load through a unit-stride rectangle reads the block at the rectangle's offsets. -/
theorem ld_blk {e : EltTy} {n0 n1 n2 m0 m1 m2 : ℕ} [NeZero n0] [NeZero n1] [NeZero n2]
    (X : (⟨3, ![n0, n1, n2]⟩ : Shape).Idx → Elt F e) (off : Fin 3 → ℕ) (b r l : ℕ) (hoff : off = ![b, r, l])
    (inb : ∀ a, off a + (⟨3, ![m0, m1, m2]⟩ : Shape).size a ≤ (⟨3, ![n0, n1, n2]⟩ : Shape).size a) :
    View.ld (Val := Elt F) X (Rect.unit (s := ⟨3, ![n0, n1, n2]⟩) off (⟨3, ![m0, m1, m2]⟩ : Shape).size inb)
      = blk (m0 := m0) (m1 := m1) (m2 := m2) X b r l := by
  subst hoff
  funext x
  unfold View.ld blk
  congr 1
  funext a
  have hx := (x a).isLt
  have hi := inb a
  apply Fin.ext
  match a, hx, hi with
  | ⟨0, _⟩, hx, hi =>
    change b + 1 * (x 0).val = (b + (x 0).val) % n0
    have hlt : b + (x 0).val < n0 := lt_of_lt_of_le (Nat.add_lt_add_left hx _) hi
    rw [Nat.mod_eq_of_lt hlt, Nat.one_mul]
  | ⟨1, _⟩, hx, hi =>
    change r + 1 * (x 1).val = (r + (x 1).val) % n1
    have hlt : r + (x 1).val < n1 := lt_of_lt_of_le (Nat.add_lt_add_left hx _) hi
    rw [Nat.mod_eq_of_lt hlt, Nat.one_mul]
  | ⟨2, _⟩, hx, hi =>
    change l + 1 * (x 2).val = (l + (x 2).val) % n2
    have hlt : l + (x 2).val < n2 := lt_of_lt_of_le (Nat.add_lt_add_left hx _) hi
    rw [Nat.mod_eq_of_lt hlt, Nat.one_mul]

/-- A score buffer once a whole tile's scores and their column maxima are stored. -/
def scBuf (Kv : Vec F S1x4112x256 .bf16) (Qv : Vec F S1x256x256 .bf16) : S4120x256.Idx → Elt F .f32 :=
  View.canon [⟨Rect.unit (s := S4120x256) ![4112, 0] S8x256.size inb_S4120x256_S8x256_4112_0, k0_pay4 Kv Qv⟩,
    ⟨Rect.unit (s := S4120x256) ![0, 0] S4112x256.size inb_S4120x256_S4112x256_0_0, k0_pay3 Kv Qv⟩]

/-- The score buffer of the tail's rows, stored in two parts of the keys. -/
def scTail (Qv : Vec F S1x256x256 .bf16) (Klo : Vec F S1x2048x256 .bf16) (Khi : Vec F S1x2064x256 .bf16) : S4120x256.Idx → Elt F .f32 :=
  View.canon [⟨Rect.unit (s := S4120x256) ![4112, 0] S8x256.size inb_S4120x256_S8x256_4112_0, k0_pay76 Qv Klo Khi⟩,
    ⟨Rect.unit (s := S4120x256) ![2048, 0] S2064x256.size inb_S4120x256_S2064x256_2048_0, k0_pay75 Qv Khi⟩,
    ⟨Rect.unit (s := S4120x256) ![0, 0] S2048x256.size inb_S4120x256_S2048x256_0_0, k0_pay74 Qv Klo⟩]

/-- The weighted rows of one tile, from its score buffer and the transposed values of head `h`. -/
def weigh (S : S4120x256.Idx → Elt F .f32) (W : S2x144x4224.Idx → Elt F .bf16) (h : ℕ) : Vec F S1x256x128 .bf16 :=
  k0_pay9 (k0_pay8
    (View.ld S (Rect.unit (s := S4120x256) ![4112, 0] S1x256.size inb_S4120x256_S1x256_4112_0))
    (View.ld S (Rect.unit (s := S4120x256) ![0, 0] S2048x256.size inb_S4120x256_S2048x256_0_0))
    (blk (m0 := 1) (m1 := 144) (m2 := 2048) W h 0 0)
    (View.ld S (Rect.unit (s := S4120x256) ![2048, 0] S2064x256.size inb_S4120x256_S2064x256_2048_0))
    (blk (m0 := 1) (m1 := 144) (m2 := 2176) W h 0 2048))

/-- Head `h`'s score buffer of the 256 queries from row `r` on. -/
def scRows (Q K : S1x4112x512.Idx → Elt F .bf16) (h r : ℕ) : S4120x256.Idx → Elt F .f32 :=
  scBuf (blk (m0 := 1) (m1 := 4112) (m2 := 256) K 0 0 (256 * h)) (blk (m0 := 1) (m1 := 256) (m2 := 256) Q 0 r (256 * h))

/-- Head `h`'s score buffer of the last 256 queries. -/
def scLast (Q K : S1x4112x512.Idx → Elt F .bf16) (h : ℕ) : S4120x256.Idx → Elt F .f32 :=
  scTail (blk (m0 := 1) (m1 := 256) (m2 := 256) Q 0 3856 (256 * h)) (blk (m0 := 1) (m1 := 2048) (m2 := 256) K 0 0 (256 * h))
    (blk (m0 := 1) (m1 := 2064) (m2 := 256) K 0 2048 (256 * h))

/-- What the body leaves in the output block: the tile of 256 queries that holds the row, or the last 256 queries. -/
def out (Q K : S1x4112x512.Idx → Elt F .bf16) (W : S2x144x4224.Idx → Elt F .bf16) : S1x4112x256.Idx → Elt F .bf16 := fun y =>
  if (y 1).val < 3856 then
    weigh (scRows Q K ((y 2).val / 128) (256 * ((y 1).val / 256))) W ((y 2).val / 128)
      (ix3 0 (Fin.ofNat 256 (y 1).val) (Fin.ofNat 128 (y 2).val))
  else
    weigh (scLast Q K ((y 2).val / 128)) W ((y 2).val / 128)
      (ix3 0 (Fin.ofNat 256 ((y 1).val - 3856)) (Fin.ofNat 128 (y 2).val))

/-- The block `g` holds `out` on the first `B0` rows of head 0 and the first `B1` rows of head 1. -/
def Agr (Q K : S1x4112x512.Idx → Elt F .bf16) (W : S2x144x4224.Idx → Elt F .bf16) (g : S1x4112x256.Idx → Elt F .bf16) (B0 B1 : ℕ) : Prop :=
  ∀ y : S1x4112x256.Idx, ((y 2).val < 128 → (y 1).val < B0 → g y = out Q K W y) ∧ (¬ (y 2).val < 128 → (y 1).val < B1 → g y = out Q K W y)

variable {κ : Kind} {sp : Space} (v : View sig κ sp S1x4112x256 .bf16) (f : v.ty.Contents (Elt F)) (L : List (View.Piece (Elt F) S1x4112x256 .bf16))
variable {Q K : S1x4112x512.Idx → Elt F .bf16} {W : S2x144x4224.Idx → Elt F .bf16}

theorem agr_zero (g : S1x4112x256.Idx → Elt F .bf16) : Agr Q K W g 0 0 :=
  fun _ => ⟨fun _ h => absurd h (Nat.not_lt_zero _), fun _ h => absurd h (Nat.not_lt_zero _)⟩

theorem agr_full {g : S1x4112x256.Idx → Elt F .bf16} (h : Agr Q K W g 4112 4112) : g = out Q K W := by
  funext y
  by_cases hy : (y 2).val < 128
  · exact (h y).1 hy (y 1).isLt
  · exact (h y).2 hy (y 1).isLt

/-- A store of 256 rows of head 0 from row `R` on extends the agreement to the rows where the payload is `out`. -/
theorem agr_store0 {off : Fin 3 → ℕ} {R B0 B1 B : ℕ} (hoff : off = ![0, R, 0])
    (inb : ∀ a, off a + S1x256x128.size a ≤ S1x4112x256.size a) (w : S1x256x128.Idx → Elt F .bf16)
    (hw : ∀ (y : S1x4112x256.Idx) (x : S1x256x128.Idx), (y 2).val < 128 → (y 1).val < B → (y 1).val = R + (x 1).val → (y 2).val = (x 2).val → w x = out Q K W y)
    (hR : R ≤ B0) (hB : B ≤ R + 256)
    (h : Agr Q K W (v.read (Elt F) (v.writes (Elt F) f L)) B0 B1) :
    Agr Q K W (v.read (Elt F) (v.writes (Elt F) f (⟨Rect.unit (s := S1x4112x256) off S1x256x128.size inb, w⟩ :: L))) B B1 := by
  intro y
  refine ⟨fun hy hy1 => ?_, fun hy hy1 => ?_⟩
  · by_cases hr : R ≤ (y 1).val
    · have hx1 : (y 1).val - R < 256 := by omega
      refine (View.read_writes_cons_unit_of_mem v f inb w L y (ix3 (0 : Fin 1) ⟨(y 1).val - R, hx1⟩ (⟨(y 2).val, hy⟩ : Fin 128)) hoff ?_).trans
        (hw y _ hy hy1 ?_ rfl)
      · intro a
        match a with
        | ⟨0, _⟩ => change (y 0).val = 0 + 0; have := (y 0).isLt; change (y 0).val < 1 at this; omega
        | ⟨1, _⟩ => change (y 1).val = R + ((y 1).val - R); omega
        | ⟨2, _⟩ => change (y 2).val = 0 + (y 2).val; omega
      · change (y 1).val = R + ((y 1).val - R); omega
    · rw [View.read_writes_cons_unit_of_not_mem v f inb w L y hoff (1 : Fin 3) (Or.inl (by change (y 1).val < R; omega))]
      exact (h y).1 hy (by omega)
  · rw [View.read_writes_cons_unit_of_not_mem v f inb w L y hoff (2 : Fin 3) (Or.inr (by change 0 + 128 ≤ (y 2).val; omega))]
    exact (h y).2 hy hy1

/-- The same for head 1. -/
theorem agr_store1 {off : Fin 3 → ℕ} {R B0 B1 B : ℕ} (hoff : off = ![0, R, 128])
    (inb : ∀ a, off a + S1x256x128.size a ≤ S1x4112x256.size a) (w : S1x256x128.Idx → Elt F .bf16)
    (hw : ∀ (y : S1x4112x256.Idx) (x : S1x256x128.Idx), ¬ (y 2).val < 128 → (y 1).val < B → (y 1).val = R + (x 1).val → (y 2).val = 128 + (x 2).val → w x = out Q K W y)
    (hR : R ≤ B1) (hB : B ≤ R + 256)
    (h : Agr Q K W (v.read (Elt F) (v.writes (Elt F) f L)) B0 B1) :
    Agr Q K W (v.read (Elt F) (v.writes (Elt F) f (⟨Rect.unit (s := S1x4112x256) off S1x256x128.size inb, w⟩ :: L))) B0 B := by
  intro y
  have hy2 : (y 2).val < 256 := (y 2).isLt
  refine ⟨fun hy hy1 => ?_, fun hy hy1 => ?_⟩
  · rw [View.read_writes_cons_unit_of_not_mem v f inb w L y hoff (2 : Fin 3) (Or.inl (by change (y 2).val < 128; omega))]
    exact (h y).1 hy hy1
  · by_cases hr : R ≤ (y 1).val
    · have hx1 : (y 1).val - R < 256 := by omega
      have hx2 : (y 2).val - 128 < 128 := by omega
      refine (View.read_writes_cons_unit_of_mem v f inb w L y (ix3 (0 : Fin 1) ⟨(y 1).val - R, hx1⟩ (⟨(y 2).val - 128, hx2⟩ : Fin 128)) hoff ?_).trans
        (hw y _ hy hy1 ?_ ?_)
      · intro a
        match a with
        | ⟨0, _⟩ => change (y 0).val = 0 + 0; have := (y 0).isLt; change (y 0).val < 1 at this; omega
        | ⟨1, _⟩ => change (y 1).val = R + ((y 1).val - R); omega
        | ⟨2, _⟩ => change (y 2).val = 128 + ((y 2).val - 128); omega
      · change (y 1).val = R + ((y 1).val - R); omega
      · change (y 2).val = 128 + ((y 2).val - 128); omega
    · rw [View.read_writes_cons_unit_of_not_mem v f inb w L y hoff (1 : Fin 3) (Or.inl (by change (y 1).val < R; omega))]
      exact (h y).2 hy (by omega)

theorem out_tile {h t : ℕ} (y : S1x4112x256.Idx) (x : S1x256x128.Idx) (h1 : (y 1).val < 3856) (hr : (y 1).val = 256 * t + (x 1).val)
    (hl : (y 2).val = 128 * h + (x 2).val) : weigh (scRows Q K h (256 * t)) W h x = out Q K W y := by
  have hx1 : (x 1).val < 256 := (x 1).isLt
  have hx2 : (x 2).val < 128 := (x 2).isLt
  have e1 : (y 2).val / 128 = h := by omega
  have e2 : (y 1).val / 256 = t := by omega
  unfold out
  rw [if_pos h1, e1, e2]
  congr 1
  rw [eq_ix3 x]
  have a0 : x 0 = (0 : Fin 1) := Subsingleton.elim (α := Fin 1) _ _
  have a1 : x 1 = Fin.ofNat 256 (y 1).val := Fin.ext (show (x 1).val = (y 1).val % 256 by omega)
  have a2 : x 2 = Fin.ofNat 128 (y 2).val := Fin.ext (show (x 2).val = (y 2).val % 128 by omega)
  rw [a0, a1, a2]; rfl

theorem out_last {h : ℕ} (y : S1x4112x256.Idx) (x : S1x256x128.Idx) (h1 : ¬ (y 1).val < 3856) (hr : (y 1).val = 3856 + (x 1).val)
    (hl : (y 2).val = 128 * h + (x 2).val) : weigh (scLast Q K h) W h x = out Q K W y := by
  have hx1 : (x 1).val < 256 := (x 1).isLt
  have hx2 : (x 2).val < 128 := (x 2).isLt
  have e1 : (y 2).val / 128 = h := by omega
  unfold out
  rw [if_neg h1, e1]
  congr 1
  rw [eq_ix3 x]
  have a0 : x 0 = (0 : Fin 1) := Subsingleton.elim (α := Fin 1) _ _
  have a1 : x 1 = Fin.ofNat 256 ((y 1).val - 3856) := Fin.ext (show (x 1).val = ((y 1).val - 3856) % 256 by omega)
  have a2 : x 2 = Fin.ofNat 128 (y 2).val := Fin.ext (show (x 2).val = (y 2).val % 128 by omega)
  rw [a0, a1, a2]; rfl

/-- A tile of head 0 stored: the agreement reaches the tile's end, or row 3856. -/
theorem agr_tile0 {off : Fin 3 → ℕ} {t B0 B1 : ℕ} (B : ℕ) (hoff : off = ![0, 256 * t, 0])
    (inb : ∀ a, off a + S1x256x128.size a ≤ S1x4112x256.size a) (w : S1x256x128.Idx → Elt F .bf16)
    (hw : w = weigh (scRows Q K 0 (256 * t)) W 0) (hR : 256 * t ≤ B0) (hB : B ≤ 256 * t + 256) (hB' : B ≤ 3856)
    (h : Agr Q K W (v.read (Elt F) (v.writes (Elt F) f L)) B0 B1) :
    Agr Q K W (v.read (Elt F) (v.writes (Elt F) f (⟨Rect.unit (s := S1x4112x256) off S1x256x128.size inb, w⟩ :: L))) B B1 :=
  agr_store0 v f L hoff inb w (fun y x _ hb hr hl => by rw [hw]; exact out_tile y x (by omega) hr (by omega)) hR hB h

theorem agr_tile1 {off : Fin 3 → ℕ} {t B0 B1 : ℕ} (B : ℕ) (hoff : off = ![0, 256 * t, 128])
    (inb : ∀ a, off a + S1x256x128.size a ≤ S1x4112x256.size a) (w : S1x256x128.Idx → Elt F .bf16)
    (hw : w = weigh (scRows Q K 1 (256 * t)) W 1) (hR : 256 * t ≤ B1) (hB : B ≤ 256 * t + 256) (hB' : B ≤ 3856)
    (h : Agr Q K W (v.read (Elt F) (v.writes (Elt F) f L)) B0 B1) :
    Agr Q K W (v.read (Elt F) (v.writes (Elt F) f (⟨Rect.unit (s := S1x4112x256) off S1x256x128.size inb, w⟩ :: L))) B0 B :=
  agr_store1 v f L hoff inb w (fun y x _ hb hr hl => by rw [hw]; exact out_tile y x (by omega) hr (by omega)) hR hB h

/-- The last 256 rows of head 0 stored over rows 3856 to 4112; a bound of 3856 becomes 4112. -/
theorem agr_last0 {B1 : ℕ} (inb : ∀ a, (![0, 3856, 0] : Fin 3 → ℕ) a + S1x256x128.size a ≤ S1x4112x256.size a) (w : S1x256x128.Idx → Elt F .bf16)
    (hw : w = weigh (scLast Q K 0) W 0) (h : Agr Q K W (v.read (Elt F) (v.writes (Elt F) f L)) 3856 B1) :
    Agr Q K W (v.read (Elt F) (v.writes (Elt F) f (⟨Rect.unit (s := S1x4112x256) ![0, 3856, 0] S1x256x128.size inb, w⟩ :: L))) 4112 B1 :=
  agr_store0 v f L rfl inb w (fun y x _ hb hr hl => by rw [hw]; exact out_last y x (by omega) hr (by omega)) (le_refl _) (le_refl _) h

theorem agr_last1 {B0 : ℕ} (inb : ∀ a, (![0, 3856, 128] : Fin 3 → ℕ) a + S1x256x128.size a ≤ S1x4112x256.size a) (w : S1x256x128.Idx → Elt F .bf16)
    (hw : w = weigh (scLast Q K 1) W 1) (h : Agr Q K W (v.read (Elt F) (v.writes (Elt F) f L)) B0 3856) :
    Agr Q K W (v.read (Elt F) (v.writes (Elt F) f (⟨Rect.unit (s := S1x4112x256) ![0, 3856, 128] S1x256x128.size inb, w⟩ :: L))) B0 4112 :=
  agr_store1 v f L rfl inb w (fun y x _ hb hr hl => by rw [hw]; exact out_last y x (by omega) hr (by omega)) (le_refl _) (le_refl _) h

/-- The values of one head padded with zeros to 4224 rows. -/
def padded (V : S1x4112x256.Idx → Elt F .bf16) (h : ℕ) : S4224x128.Idx → Elt F .f32 :=
  View.canon [⟨Rect.unit (s := S4224x128) ![0, 0] S4112x128.size inb_S4224x128_S4112x128_0_0, k0_pay43 (blk (m0 := 1) (m1 := 4112) (m2 := 128) V 0 0 (128 * h))⟩,
    ⟨Rect.unit (s := S4224x128) ![4112, 0] S112x128.size inb_S4224x128_S112x128_4112_0, k0_pay42⟩]

/-- Both heads' values transposed, over sixteen rows that are one at a key and zero past the last. -/
def turned (V : S1x4112x256.Idx → Elt F .bf16) : S2x144x4224.Idx → Elt F .bf16 :=
  View.canon [⟨Rect.unit (s := S2x144x4224) ![1, 128, 0] S1x16x4224.size inb_S2x144x4224_S1x16x4224_1_128_0, k0_pay45⟩,
    ⟨Rect.unit (s := S2x144x4224) ![1, 0, 0] S1x128x4224.size inb_S2x144x4224_S1x128x4224_1_0_0, k0_pay44 (padded V 1)⟩,
    ⟨Rect.unit (s := S2x144x4224) ![0, 128, 0] S1x16x4224.size inb_S2x144x4224_S1x16x4224_0_128_0, k0_pay45⟩,
    ⟨Rect.unit (s := S2x144x4224) ![0, 0, 0] S1x128x4224.size inb_S2x144x4224_S1x128x4224_0_0_0, k0_pay44 (padded V 0)⟩]

end Cert.KernelIdeal.Hand
-- ==== Proof.Pay.lean ====
/-
  The stored values of the body, tile by tile, are two functions: a tile's scores with their maxima, and a tile's weighted rows.
-/
module

public import proofs.«01_k».proof.Proof.Spec

@[expose] public section

noncomputable section

namespace Cert.KernelIdeal.Hand

open Cert.KernelIdeal Cert.KernelIdeal.Gen
open Idealize.ShloMosaic Idealize.ShloMosaic.ValueIdx

variable {F : FTy → Type} [FloatOps F]

theorem s13 (Kv : Vec F S1x4112x256 .bf16) (Qv : Vec F S1x256x256 .bf16) : k0_pay13 Kv Qv = k0_pay3 Kv Qv := rfl
theorem s23 (Kv : Vec F S1x4112x256 .bf16) (Qv : Vec F S1x256x256 .bf16) : k0_pay23 Kv Qv = k0_pay3 Kv Qv := rfl
theorem s33 (Kv : Vec F S1x4112x256 .bf16) (Qv : Vec F S1x256x256 .bf16) : k0_pay33 Kv Qv = k0_pay3 Kv Qv := rfl
theorem s51 (Kv : Vec F S1x4112x256 .bf16) (Qv : Vec F S1x256x256 .bf16) : k0_pay51 Kv Qv = k0_pay3 Kv Qv := rfl
theorem s54 (Kv : Vec F S1x4112x256 .bf16) (Qv : Vec F S1x256x256 .bf16) : k0_pay54 Kv Qv = k0_pay3 Kv Qv := rfl
theorem s58 (Kv : Vec F S1x4112x256 .bf16) (Qv : Vec F S1x256x256 .bf16) : k0_pay58 Kv Qv = k0_pay3 Kv Qv := rfl
theorem s62 (Kv : Vec F S1x4112x256 .bf16) (Qv : Vec F S1x256x256 .bf16) : k0_pay62 Kv Qv = k0_pay3 Kv Qv := rfl
theorem s81 (Kv : Vec F S1x4112x256 .bf16) (Qv : Vec F S1x256x256 .bf16) : k0_pay81 Kv Qv = k0_pay3 Kv Qv := rfl
theorem s85 (Kv : Vec F S1x4112x256 .bf16) (Qv : Vec F S1x256x256 .bf16) : k0_pay85 Kv Qv = k0_pay3 Kv Qv := rfl
theorem s92 (Kv : Vec F S1x4112x256 .bf16) (Qv : Vec F S1x256x256 .bf16) : k0_pay92 Kv Qv = k0_pay3 Kv Qv := rfl
theorem s95 (Kv : Vec F S1x4112x256 .bf16) (Qv : Vec F S1x256x256 .bf16) : k0_pay95 Kv Qv = k0_pay3 Kv Qv := rfl
theorem s14 (Kv : Vec F S1x4112x256 .bf16) (Qv : Vec F S1x256x256 .bf16) : k0_pay14 Kv Qv = k0_pay4 Kv Qv := rfl
theorem s24 (Kv : Vec F S1x4112x256 .bf16) (Qv : Vec F S1x256x256 .bf16) : k0_pay24 Kv Qv = k0_pay4 Kv Qv := rfl
theorem s34 (Kv : Vec F S1x4112x256 .bf16) (Qv : Vec F S1x256x256 .bf16) : k0_pay34 Kv Qv = k0_pay4 Kv Qv := rfl
theorem s52 (Kv : Vec F S1x4112x256 .bf16) (Qv : Vec F S1x256x256 .bf16) : k0_pay52 Kv Qv = k0_pay4 Kv Qv := rfl
theorem s55 (Kv : Vec F S1x4112x256 .bf16) (Qv : Vec F S1x256x256 .bf16) : k0_pay55 Kv Qv = k0_pay4 Kv Qv := rfl
theorem s63 (Kv : Vec F S1x4112x256 .bf16) (Qv : Vec F S1x256x256 .bf16) : k0_pay63 Kv Qv = k0_pay4 Kv Qv := rfl
theorem s86 (Kv : Vec F S1x4112x256 .bf16) (Qv : Vec F S1x256x256 .bf16) : k0_pay86 Kv Qv = k0_pay4 Kv Qv := rfl
theorem s93 (Kv : Vec F S1x4112x256 .bf16) (Qv : Vec F S1x256x256 .bf16) : k0_pay93 Kv Qv = k0_pay4 Kv Qv := rfl
theorem s96 (Kv : Vec F S1x4112x256 .bf16) (Qv : Vec F S1x256x256 .bf16) : k0_pay96 Kv Qv = k0_pay4 Kv Qv := rfl
theorem s6 (Kv : Vec F S1x4112x256 .bf16) (Qv : Vec F S1x256x256 .bf16) : k0_pay6 (k0_pay5 Kv Qv) = k0_pay3 Kv Qv := rfl
theorem s16 (Kv : Vec F S1x4112x256 .bf16) (Qv : Vec F S1x256x256 .bf16) : k0_pay16 (k0_pay15 Kv Qv) = k0_pay3 Kv Qv := rfl
theorem s26 (Kv : Vec F S1x4112x256 .bf16) (Qv : Vec F S1x256x256 .bf16) : k0_pay26 (k0_pay25 Kv Qv) = k0_pay3 Kv Qv := rfl
theorem s36 (Kv : Vec F S1x4112x256 .bf16) (Qv : Vec F S1x256x256 .bf16) : k0_pay36 (k0_pay35 Kv Qv) = k0_pay3 Kv Qv := rfl
theorem s7 (Kv : Vec F S1x4112x256 .bf16) (Qv : Vec F S1x256x256 .bf16) : k0_pay7 (k0_pay5 Kv Qv) = k0_pay4 Kv Qv := rfl
theorem s17 (Kv : Vec F S1x4112x256 .bf16) (Qv : Vec F S1x256x256 .bf16) : k0_pay17 (k0_pay15 Kv Qv) = k0_pay4 Kv Qv := rfl
theorem s27 (Kv : Vec F S1x4112x256 .bf16) (Qv : Vec F S1x256x256 .bf16) : k0_pay27 (k0_pay25 Kv Qv) = k0_pay4 Kv Qv := rfl
theorem s37 (Kv : Vec F S1x4112x256 .bf16) (Qv : Vec F S1x256x256 .bf16) : k0_pay37 (k0_pay35 Kv Qv) = k0_pay4 Kv Qv := rfl
theorem s60 (Kv : Vec F S1x4112x256 .bf16) (Qv : Vec F S1x256x256 .bf16) : k0_pay60 (k0_pay59 Kv Qv) = k0_pay4 Kv Qv := rfl
theorem s83 (Kv : Vec F S1x4112x256 .bf16) (Qv : Vec F S1x256x256 .bf16) : k0_pay83 (k0_pay82 Kv Qv) = k0_pay4 Kv Qv := rfl
theorem w11 (m : Vec F S1x256 .f32) (lo : Vec F S2048x256 .f32) (wlo : Vec F S1x144x2048 .bf16) (hi : Vec F S2064x256 .f32) (whi : Vec F S1x144x2176 .bf16) : k0_pay11 (k0_pay10 m lo wlo hi whi) = k0_pay9 (k0_pay8 m lo wlo hi whi) := rfl
theorem w56 (m : Vec F S1x256 .f32) (lo : Vec F S2048x256 .f32) (wlo : Vec F S1x144x2048 .bf16) (hi : Vec F S2064x256 .f32) (whi : Vec F S1x144x2176 .bf16) : k0_pay56 (k0_pay21 m lo wlo hi whi) = k0_pay9 (k0_pay8 m lo wlo hi whi) := rfl
theorem w29 (m : Vec F S1x256 .f32) (lo : Vec F S2048x256 .f32) (wlo : Vec F S1x144x2048 .bf16) (hi : Vec F S2064x256 .f32) (whi : Vec F S1x144x2176 .bf16) : k0_pay29 (k0_pay28 m lo wlo hi whi) = k0_pay9 (k0_pay8 m lo wlo hi whi) := rfl
theorem w31 (m : Vec F S1x256 .f32) (lo : Vec F S2048x256 .f32) (wlo : Vec F S1x144x2048 .bf16) (hi : Vec F S2064x256 .f32) (whi : Vec F S1x144x2176 .bf16) : k0_pay31 (k0_pay30 m lo wlo hi whi) = k0_pay9 (k0_pay8 m lo wlo hi whi) := rfl
theorem w90 (m : Vec F S1x256 .f32) (lo : Vec F S2048x256 .f32) (wlo : Vec F S1x144x2048 .bf16) (hi : Vec F S2064x256 .f32) (whi : Vec F S1x144x2176 .bf16) : k0_pay90 (k0_pay41 m lo wlo hi whi) = k0_pay9 (k0_pay8 m lo wlo hi whi) := rfl
theorem w20 (m : Vec F S1x256 .f32) (lo : Vec F S2048x256 .f32) (wlo : Vec F S1x144x2048 .bf16) (hi : Vec F S2064x256 .f32) (whi : Vec F S1x144x2176 .bf16) : k0_pay20 (k0_pay18 m lo wlo) (k0_pay19 m hi) whi = k0_pay9 (k0_pay8 m lo wlo hi whi) := rfl
theorem w40 (m : Vec F S1x256 .f32) (lo : Vec F S2048x256 .f32) (wlo : Vec F S1x144x2048 .bf16) (hi : Vec F S2064x256 .f32) (whi : Vec F S1x144x2176 .bf16) : k0_pay40 (k0_pay38 m lo wlo) (k0_pay39 m hi) whi = k0_pay9 (k0_pay8 m lo wlo hi whi) := rfl
theorem w66 (m : Vec F S1x256 .f32) (lo : Vec F S2048x256 .f32) (wlo : Vec F S1x144x2048 .bf16) (hi : Vec F S2064x256 .f32) (whi : Vec F S1x144x2176 .bf16) : k0_pay66 (k0_pay64 m lo wlo) (k0_pay65 m hi) whi = k0_pay9 (k0_pay8 m lo wlo hi whi) := rfl
theorem w89 (m : Vec F S1x256 .f32) (lo : Vec F S2048x256 .f32) (wlo : Vec F S1x144x2048 .bf16) (hi : Vec F S2064x256 .f32) (whi : Vec F S1x144x2176 .bf16) : k0_pay89 (k0_pay87 m lo wlo) (k0_pay88 m hi) whi = k0_pay9 (k0_pay8 m lo wlo hi whi) := rfl
theorem w70 (m : Vec F S1x256 .f32) (lo : Vec F S2048x256 .f32) (wlo : Vec F S1x144x2048 .bf16) (hi : Vec F S2064x256 .f32) (whi : Vec F S1x144x2176 .bf16) : k0_pay70 (k0_pay68 m lo wlo hi whi) (k0_pay69 m lo wlo hi whi) = k0_pay9 (k0_pay8 m lo wlo hi whi) := rfl
theorem w77 (m : Vec F S1x256 .f32) (lo : Vec F S2048x256 .f32) (wlo : Vec F S1x144x2048 .bf16) (hi : Vec F S2064x256 .f32) (whi : Vec F S1x144x2176 .bf16) : k0_pay77 m lo wlo hi whi = k0_pay9 (k0_pay8 m lo wlo hi whi) := rfl
theorem w79 (m : Vec F S1x256 .f32) (lo : Vec F S2048x256 .f32) (wlo : Vec F S1x144x2048 .bf16) (hi : Vec F S2064x256 .f32) (whi : Vec F S1x144x2176 .bf16) : k0_pay79 m (k0_pay78 m lo) wlo hi whi = k0_pay9 (k0_pay8 m lo wlo hi whi) := rfl
theorem w99 (m : Vec F S1x256 .f32) (lo : Vec F S2048x256 .f32) (wlo : Vec F S1x144x2048 .bf16) (hi : Vec F S2064x256 .f32) (whi : Vec F S1x144x2176 .bf16) : k0_pay99 (k0_pay97 m lo wlo) (k0_pay98 m hi whi) = k0_pay9 (k0_pay8 m lo wlo hi whi) := rfl
theorem w101 (m : Vec F S1x256 .f32) (lo : Vec F S2048x256 .f32) (wlo : Vec F S1x144x2048 .bf16) (hi : Vec F S2064x256 .f32) (whi : Vec F S1x144x2176 .bf16) : k0_pay101 (k0_pay100 m lo wlo hi whi) = k0_pay9 (k0_pay8 m lo wlo hi whi) := rfl
theorem w109 (m : Vec F S1x256 .f32) (lo : Vec F S2048x256 .f32) (wlo : Vec F S1x144x2048 .bf16) (hi : Vec F S2064x256 .f32) (whi : Vec F S1x144x2176 .bf16) : k0_pay109 m (k0_pay108 m lo) wlo hi whi = k0_pay9 (k0_pay8 m lo wlo hi whi) := rfl
theorem w112 (m : Vec F S1x256 .f32) (lo : Vec F S2048x256 .f32) (wlo : Vec F S1x144x2048 .bf16) (hi : Vec F S2064x256 .f32) (whi : Vec F S1x144x2176 .bf16) : k0_pay112 (k0_pay110 m lo wlo) hi (k0_pay111 m) whi = k0_pay9 (k0_pay8 m lo wlo hi whi) := rfl
theorem w1 (m : Vec F S1x256 .f32) (lo : Vec F S2048x256 .f32) (wlo : Vec F S1x144x2048 .bf16) (hi : Vec F S2064x256 .f32) (whi : Vec F S1x144x2176 .bf16) : k0_pay1 (k0_pay113 m lo wlo) (k0_pay114 m hi) (k0_pay115 whi) = k0_pay9 (k0_pay8 m lo wlo hi whi) := rfl
theorem s105 (Qv : Vec F S1x256x256 .bf16) (Klo : Vec F S1x2048x256 .bf16) (Khi : Vec F S1x2064x256 .bf16) : k0_pay105 Qv Klo = k0_pay74 Qv Klo := rfl
theorem s106 (Qv : Vec F S1x256x256 .bf16) (Klo : Vec F S1x2048x256 .bf16) (Khi : Vec F S1x2064x256 .bf16) : k0_pay106 Qv Khi = k0_pay75 Qv Khi := rfl
theorem s107 (Qv : Vec F S1x256x256 .bf16) (Klo : Vec F S1x2048x256 .bf16) (Khi : Vec F S1x2064x256 .bf16) : k0_pay107 Qv Klo Khi = k0_pay76 Qv Klo Khi := rfl
theorem s47 (Vv : Vec F S1x4112x128 .bf16) : k0_pay47 (k0_pay46 Vv) = k0_pay43 Vv := rfl
theorem s48 (P : Vec F S4224x128 .f32) : k0_pay48 P = k0_pay44 P := rfl

variable {κ : Kind} {sp : Space} (v : View sig κ sp S4120x256 .f32)

/-- A score buffer read after a whole tile's scores and maxima are stored. -/
theorem sc_read (f : v.ty.Contents (Elt F)) (Kv : Vec F S1x4112x256 .bf16) (Qv : Vec F S1x256x256 .bf16) :
    v.read (Elt F) (v.writes (Elt F) f
        [⟨Rect.unit (s := S4120x256) ![4112, 0] S8x256.size inb_S4120x256_S8x256_4112_0, k0_pay4 Kv Qv⟩,
          ⟨Rect.unit (s := S4120x256) ![0, 0] S4112x256.size inb_S4120x256_S4112x256_0_0, k0_pay3 Kv Qv⟩]) = scBuf Kv Qv := by
  refine View.read_writes_eq_canon v f _ fun y => ?_
  have h0 : (y 0).val < 4120 := (y 0).isLt
  have h1 : (y 1).val < 256 := (y 1).isLt
  by_cases hy : (y 0).val < 4112
  · refine ⟨⟨Rect.unit (s := S4120x256) ![0, 0] S4112x256.size inb_S4120x256_S4112x256_0_0, k0_pay3 Kv Qv⟩, List.mem_cons_of_mem _ (List.mem_cons_self), ?_⟩
    change y ∈ (Rect.unit (s := S4120x256) ![0, 0] S4112x256.size inb_S4120x256_S4112x256_0_0).set
    rw [Rect.mem_set_unit]
    intro a
    match a with
    | ⟨0, _⟩ => exact ⟨Nat.zero_le _, by change (y 0).val < 0 + 4112; omega⟩
    | ⟨1, _⟩ => exact ⟨Nat.zero_le _, by change (y 1).val < 0 + 256; omega⟩
  · refine ⟨⟨Rect.unit (s := S4120x256) ![4112, 0] S8x256.size inb_S4120x256_S8x256_4112_0, k0_pay4 Kv Qv⟩, List.mem_cons_self, ?_⟩
    change y ∈ (Rect.unit (s := S4120x256) ![4112, 0] S8x256.size inb_S4120x256_S8x256_4112_0).set
    rw [Rect.mem_set_unit]
    intro a
    match a with
    | ⟨0, _⟩ => exact ⟨by change 4112 ≤ (y 0).val; omega, by change (y 0).val < 4112 + 8; omega⟩
    | ⟨1, _⟩ => exact ⟨Nat.zero_le _, by change (y 1).val < 0 + 256; omega⟩

variable {S : S4120x256.Idx → Elt F .f32} {W : S2x144x4224.Idx → Elt F .bf16} {h : ℕ}
  {wlo : Vec F S1x144x2048 .bf16} {whi : Vec F S1x144x2176 .bf16}

/-- A tile's weighted rows, its score buffer read whole from memory. -/
theorem weigh_read (f : v.ty.Contents (Elt F)) (hS : v.read (Elt F) f = S)
    (hlo : wlo = blk (m0 := 1) (m1 := 144) (m2 := 2048) W h 0 0) (hhi : whi = blk (m0 := 1) (m1 := 144) (m2 := 2176) W h 0 2048) :
    k0_pay9 (k0_pay8
      (v.readAt (Elt F) (Rect.unit (s := S4120x256) ![4112, 0] S1x256.size inb_S4120x256_S1x256_4112_0).toLoadRect f)
      (v.readAt (Elt F) (Rect.unit (s := S4120x256) ![0, 0] S2048x256.size inb_S4120x256_S2048x256_0_0).toLoadRect f)
      wlo
      (v.readAt (Elt F) (Rect.unit (s := S4120x256) ![2048, 0] S2064x256.size inb_S4120x256_S2064x256_2048_0).toLoadRect f)
      whi) = weigh S W h := by
  subst hS hlo hhi; rfl

/-- The same with the buffer read back from the stores that cover it. -/
theorem weigh_cov (L : List (View.Piece (Elt F) S4120x256 .f32)) (hS : View.canon L = S)
    (hlo : wlo = blk (m0 := 1) (m1 := 144) (m2 := 2048) W h 0 0) (hhi : whi = blk (m0 := 1) (m1 := 144) (m2 := 2176) W h 0 2048) :
    k0_pay9 (k0_pay8
      (v.readCov L (Rect.unit (s := S4120x256) ![4112, 0] S1x256.size inb_S4120x256_S1x256_4112_0).toLoadRect)
      (v.readCov L (Rect.unit (s := S4120x256) ![0, 0] S2048x256.size inb_S4120x256_S2048x256_0_0).toLoadRect)
      wlo
      (v.readCov L (Rect.unit (s := S4120x256) ![2048, 0] S2064x256.size inb_S4120x256_S2064x256_2048_0).toLoadRect)
      whi) = weigh S W h := by
  subst hS hlo hhi
  rw [View.readCov_eq_canon', View.readCov_eq_canon', View.readCov_eq_canon']
  rfl

/-- The tail's score buffer read after its three stores. -/
theorem tail_read (f : v.ty.Contents (Elt F)) (Qv : Vec F S1x256x256 .bf16) (Klo : Vec F S1x2048x256 .bf16) (Khi : Vec F S1x2064x256 .bf16) :
    View.canon [⟨Rect.unit (s := S4120x256) ![4112, 0] S8x256.size inb_S4120x256_S8x256_4112_0, k0_pay76 Qv Klo Khi⟩,
      ⟨Rect.unit (s := S4120x256) ![2048, 0] S2064x256.size inb_S4120x256_S2064x256_2048_0, k0_pay75 Qv Khi⟩,
      ⟨Rect.unit (s := S4120x256) ![0, 0] S2048x256.size inb_S4120x256_S2048x256_0_0, k0_pay74 Qv Klo⟩] = scTail Qv Klo Khi := rfl

/-- The padded values' buffer read whole is what its stores leave. -/
theorem pad_whole {κ : Kind} {sp : Space} (u : View sig κ sp S4224x128 .f32) (L : List (View.Piece (Elt F) S4224x128 .f32)) :
    u.readCov L (Rect.unit (s := S4224x128) ![0, 0] S4224x128.size inb_S4224x128_S4224x128_0_0).toLoadRect = View.canon L := by
  rw [View.readCov_eq_canon']
  funext j
  congr 1
  funext a
  apply Fin.ext
  match a with
  | ⟨0, _⟩ => change 0 + 1 * (j 0).val = (j 0).val; omega
  | ⟨1, _⟩ => change 0 + 1 * (j 1).val = (j 1).val; omega

/-- A store over a rectangle hides the store before it over the same one. -/
theorem store_over {S : Shape} {e : EltTy} (R T : Rect S) (a b : R.shape.Idx → Elt F e) (z : T.shape.Idx → Elt F e) :
    View.canon [(⟨R, a⟩ : View.Piece (Elt F) S e), ⟨R, b⟩, ⟨T, z⟩] = View.canon [(⟨R, a⟩ : View.Piece (Elt F) S e), ⟨T, z⟩] := by
  funext y
  by_cases hy : y ∈ R.set
  · rw [← Rect.map_emb_univ] at hy
    obtain ⟨x, -, rfl⟩ := Finset.mem_map.1 hy
    rw [View.canon_cons_emb, View.canon_cons_emb]
  · rw [View.canon_cons_of_not_mem (⟨R, a⟩ : View.Piece (Elt F) S e) _ hy, View.canon_cons_of_not_mem (⟨R, b⟩ : View.Piece (Elt F) S e) _ hy,
      View.canon_cons_of_not_mem (⟨R, a⟩ : View.Piece (Elt F) S e) _ hy]

theorem s49 : k0_pay49 (F := F) (iota Kind.tc S16x4224 32 [1] iota_S16x4224_d1_w32) = k0_pay45 := rfl

theorem pad_fold (V : S1x4112x256.Idx → Elt F .bf16) (h : ℕ) :
    View.canon [⟨Rect.unit (s := S4224x128) ![0, 0] S4112x128.size inb_S4224x128_S4112x128_0_0, k0_pay43 (blk (m0 := 1) (m1 := 4112) (m2 := 128) V 0 0 (128 * h))⟩,
      ⟨Rect.unit (s := S4224x128) ![4112, 0] S112x128.size inb_S4224x128_S112x128_4112_0, k0_pay42⟩] = padded V h := rfl

/-- The transposed values read after their four stores. -/
theorem turn_read {κ : Kind} {sp : Space} (u : View sig κ sp S2x144x4224 .bf16) (f : u.ty.Contents (Elt F)) (V : S1x4112x256.Idx → Elt F .bf16) :
    u.read (Elt F) (u.writes (Elt F) f
      [⟨Rect.unit (s := S2x144x4224) ![1, 128, 0] S1x16x4224.size inb_S2x144x4224_S1x16x4224_1_128_0, k0_pay45⟩,
        ⟨Rect.unit (s := S2x144x4224) ![1, 0, 0] S1x128x4224.size inb_S2x144x4224_S1x128x4224_1_0_0, k0_pay44 (padded V 1)⟩,
        ⟨Rect.unit (s := S2x144x4224) ![0, 128, 0] S1x16x4224.size inb_S2x144x4224_S1x16x4224_0_128_0, k0_pay45⟩,
        ⟨Rect.unit (s := S2x144x4224) ![0, 0, 0] S1x128x4224.size inb_S2x144x4224_S1x128x4224_0_0_0, k0_pay44 (padded V 0)⟩]) = turned V := by
  refine View.read_writes_eq_canon u f _ fun y => ?_
  have h0 : (y 0).val < 2 := (y 0).isLt
  have h1 : (y 1).val < 144 := (y 1).isLt
  have h2 : (y 2).val < 4224 := (y 2).isLt
  by_cases hh : (y 0).val = 0 <;> by_cases hr : (y 1).val < 128
  · refine ⟨_, List.mem_cons_of_mem _ (List.mem_cons_of_mem _ (List.mem_cons_of_mem _ List.mem_cons_self)), ?_⟩
    rw [Rect.mem_set_unit]; intro a
    match a with
    | ⟨0, _⟩ => exact ⟨Nat.zero_le _, by change (y 0).val < 0 + 1; omega⟩
    | ⟨1, _⟩ => exact ⟨Nat.zero_le _, by change (y 1).val < 0 + 128; omega⟩
    | ⟨2, _⟩ => exact ⟨Nat.zero_le _, by change (y 2).val < 0 + 4224; omega⟩
  · refine ⟨_, List.mem_cons_of_mem _ (List.mem_cons_of_mem _ List.mem_cons_self), ?_⟩
    rw [Rect.mem_set_unit]; intro a
    match a with
    | ⟨0, _⟩ => exact ⟨Nat.zero_le _, by change (y 0).val < 0 + 1; omega⟩
    | ⟨1, _⟩ => exact ⟨by change 128 ≤ (y 1).val; omega, by change (y 1).val < 128 + 16; omega⟩
    | ⟨2, _⟩ => exact ⟨Nat.zero_le _, by change (y 2).val < 0 + 4224; omega⟩
  · refine ⟨_, List.mem_cons_of_mem _ List.mem_cons_self, ?_⟩
    rw [Rect.mem_set_unit]; intro a
    match a with
    | ⟨0, _⟩ => exact ⟨by change 1 ≤ (y 0).val; omega, by change (y 0).val < 1 + 1; omega⟩
    | ⟨1, _⟩ => exact ⟨Nat.zero_le _, by change (y 1).val < 0 + 128; omega⟩
    | ⟨2, _⟩ => exact ⟨Nat.zero_le _, by change (y 2).val < 0 + 4224; omega⟩
  · refine ⟨_, List.mem_cons_self, ?_⟩
    rw [Rect.mem_set_unit]; intro a
    match a with
    | ⟨0, _⟩ => exact ⟨by change 1 ≤ (y 0).val; omega, by change (y 0).val < 1 + 1; omega⟩
    | ⟨1, _⟩ => exact ⟨by change 128 ≤ (y 1).val; omega, by change (y 1).val < 128 + 16; omega⟩
    | ⟨2, _⟩ => exact ⟨Nat.zero_le _, by change (y 2).val < 0 + 4224; omega⟩

/-- The same as the body stores them, each head's values read back from the padded buffer. -/
theorem turn_run {κ κ' : Kind} {sp sp' : Space} (p : View sig κ' sp' S4224x128 .f32) (u : View sig κ sp S2x144x4224 .bf16) (f : u.ty.Contents (Elt F))
    (V : S1x4112x256.Idx → Elt F .bf16) :
    u.read (Elt F) (u.writes (Elt F) f
      [⟨Rect.unit (s := S2x144x4224) ![1, 128, 0] S1x16x4224.size inb_S2x144x4224_S1x16x4224_1_128_0, k0_pay49 (iota Kind.tc S16x4224 32 [1] iota_S16x4224_d1_w32)⟩,
        ⟨Rect.unit (s := S2x144x4224) ![1, 0, 0] S1x128x4224.size inb_S2x144x4224_S1x128x4224_1_0_0,
          k0_pay44 (p.readCov
            [⟨Rect.unit (s := S4224x128) ![0, 0] S4112x128.size inb_S4224x128_S4112x128_0_0, k0_pay43 (blk (m0 := 1) (m1 := 4112) (m2 := 128) V 0 0 (128 * 1))⟩,
              ⟨Rect.unit (s := S4224x128) ![0, 0] S4112x128.size inb_S4224x128_S4112x128_0_0, k0_pay43 (blk (m0 := 1) (m1 := 4112) (m2 := 128) V 0 0 (128 * 0))⟩,
              ⟨Rect.unit (s := S4224x128) ![4112, 0] S112x128.size inb_S4224x128_S112x128_4112_0, k0_pay42⟩]
            (Rect.unit (s := S4224x128) ![0, 0] S4224x128.size inb_S4224x128_S4224x128_0_0).toLoadRect)⟩,
        ⟨Rect.unit (s := S2x144x4224) ![0, 128, 0] S1x16x4224.size inb_S2x144x4224_S1x16x4224_0_128_0, k0_pay45⟩,
        ⟨Rect.unit (s := S2x144x4224) ![0, 0, 0] S1x128x4224.size inb_S2x144x4224_S1x128x4224_0_0_0,
          k0_pay44 (p.readCov
            [⟨Rect.unit (s := S4224x128) ![0, 0] S4112x128.size inb_S4224x128_S4112x128_0_0, k0_pay43 (blk (m0 := 1) (m1 := 4112) (m2 := 128) V 0 0 (128 * 0))⟩,
              ⟨Rect.unit (s := S4224x128) ![4112, 0] S112x128.size inb_S4224x128_S112x128_4112_0, k0_pay42⟩]
            (Rect.unit (s := S4224x128) ![0, 0] S4224x128.size inb_S4224x128_S4224x128_0_0).toLoadRect)⟩]) = turned V := by
  rw [s49, pad_whole, pad_whole, store_over, pad_fold, pad_fold]
  exact turn_read u f V

end Cert.KernelIdeal.Hand
-- ==== Proof.Trip.lean ====
/-
  One trip of each of the body's two loops: four tiles of 256 queries of one head, the scores of the next pair of tiles stored
  while the weighted rows of the pair before are formed.
-/
module

public import proofs.«01_k».proof.Proof.Pay
public import Idealize.ShloMosaic.Lib.Tactic.Stretches
public import Idealize.ShloMosaic.Lib.Exec
public import Idealize.ShloMosaic.Lib.Tactic
public import Idealize.ShloMosaic.Lib.Pipeline.Kit

@[expose] public section

set_option maxRecDepth 8192
set_option maxHeartbeats 4000000
set_option warn.classDefReducibility false

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A read through a unit-stride rectangle of a rank-3 buffer is the block at the rectangle's offsets. -/
theorem rd_blk {κ : Kind} {sp : Space} {e : EltTy} {n0 n1 n2 m0 m1 m2 : ℕ} [NeZero n0] [NeZero n1] [NeZero n2]
    (v : View sig κ sp ⟨3, ![n0, n1, n2]⟩ e) (X : v.ty.Contents (Elt F)) {off : Fin 3 → ℕ} {b r l : ℕ} (hoff : off = ![b, r, l])
    (inb : ∀ a, off a + (⟨3, ![m0, m1, m2]⟩ : Shape).size a ≤ (⟨3, ![n0, n1, n2]⟩ : Shape).size a) :
    v.readAt (Elt F) (Rect.unit (s := ⟨3, ![n0, n1, n2]⟩) off (⟨3, ![m0, m1, m2]⟩ : Shape).size inb).toLoadRect X
      = blk (m0 := m0) (m1 := m1) (m2 := m2) (v.read (Elt F) X) b r l :=
  ld_blk _ _ _ _ _ hoff _

theorem off1_1_0 (k : Fin k0_t1_loop.trips) : k0_off1 k 1#32 0#32 = ![0, 256 * (4 * k.val + 2), 256 * 0] :=
  (by decide +kernel : ∀ k : Fin k0_t1_loop.trips, k0_off1 k 1#32 0#32 = ![0, 256 * (4 * k.val + 2), 256 * 0]) k
theorem off1_1_256 (k : Fin k0_t1_loop.trips) : k0_off1 k 1#32 256#32 = ![0, 256 * (4 * k.val + 3), 256 * 0] :=
  (by decide +kernel : ∀ k : Fin k0_t1_loop.trips, k0_off1 k 1#32 256#32 = ![0, 256 * (4 * k.val + 3), 256 * 0]) k
theorem off1_2_0 (k : Fin k0_t1_loop.trips) : k0_off1 k 2#32 0#32 = ![0, 256 * (4 * (k.val + 1)), 256 * 0] :=
  (by decide +kernel : ∀ k : Fin k0_t1_loop.trips, k0_off1 k 2#32 0#32 = ![0, 256 * (4 * (k.val + 1)), 256 * 0]) k
theorem off1_2_256 (k : Fin k0_t1_loop.trips) : k0_off1 k 2#32 256#32 = ![0, 256 * (4 * (k.val + 1) + 1), 256 * 0] :=
  (by decide +kernel : ∀ k : Fin k0_t1_loop.trips, k0_off1 k 2#32 256#32 = ![0, 256 * (4 * (k.val + 1) + 1), 256 * 0]) k
theorem off2_0 (k : Fin k0_t1_loop.trips) : k0_off2 k 0#32 = ![0, 256 * (4 * k.val), 0] :=
  (by decide +kernel : ∀ k : Fin k0_t1_loop.trips, k0_off2 k 0#32 = ![0, 256 * (4 * k.val), 0]) k
theorem off2_256 (k : Fin k0_t1_loop.trips) : k0_off2 k 256#32 = ![0, 256 * (4 * k.val + 1), 0] :=
  (by decide +kernel : ∀ k : Fin k0_t1_loop.trips, k0_off2 k 256#32 = ![0, 256 * (4 * k.val + 1), 0]) k
theorem off3_0 (k : Fin k0_t1_loop.trips) : k0_off3 k 0#32 = ![0, 256 * (4 * k.val + 2), 0] :=
  (by decide +kernel : ∀ k : Fin k0_t1_loop.trips, k0_off3 k 0#32 = ![0, 256 * (4 * k.val + 2), 0]) k
theorem off3_256 (k : Fin k0_t1_loop.trips) : k0_off3 k 256#32 = ![0, 256 * (4 * k.val + 3), 0] :=
  (by decide +kernel : ∀ k : Fin k0_t1_loop.trips, k0_off3 k 256#32 = ![0, 256 * (4 * k.val + 3), 0]) k

/-- What holds before trip `k` of head 0's loop: the output rows of the trips before, and the two score buffers of the trip's
    first two tiles. -/
abbrev tripInv1 (c : Dev nD) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (X2 : BufTy.Contents (Elt F) arg2.view.ty) (X3 : BufTy.Contents (Elt F) arg3.view.ty) (X7 : BufTy.Contents (Elt F) arg7.view.ty) (k : ℕ) (_u : Unit) : sProp 𝕄 :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7)
    ∗ (∃ f, (arg5.view.loc (c : Thread nD τ) ↦[arg5.view.set]{fullShare} f) ∗ ⌜Agr (arg2.view.read (Elt F) X2) (arg3.view.read (Elt F) X3) (arg7.view.read (Elt F) X7) (arg5.view.read (Elt F) f) (1024 * k) 0⌝)
    ∗ (∃ f, (arg8.view.loc (c : Thread nD τ) ↦[arg8.view.set]{fullShare} f) ∗ ⌜arg8.view.read (Elt F) f = scRows (arg2.view.read (Elt F) X2) (arg3.view.read (Elt F) X3) 0 (256 * (4 * k))⌝)
    ∗ (∃ f, (arg9.view.loc (c : Thread nD τ) ↦[arg9.view.set]{fullShare} f) ∗ ⌜arg9.view.read (Elt F) f = scRows (arg2.view.read (Elt F) X2) (arg3.view.read (Elt F) X3) 0 (256 * (4 * k + 1))⌝)
    ∗ (∃ f, (arg10.view.loc (c : Thread nD τ) ↦[arg10.view.set]{fullShare} f))
    ∗ (∃ f, (arg11.view.loc (c : Thread nD τ) ↦[arg11.view.set]{fullShare} f)))

theorem trip1 (𝒱 : Variants) (c : Dev nD) (bd : Option 𝒱.V) (E : Set ℕ) (i : grid0.Coords) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (X2 : BufTy.Contents (Elt F) arg2.view.ty) (X3 : BufTy.Contents (Elt F) arg3.view.ty) (X7 : BufTy.Contents (Elt F) arg7.view.ty) (k : Fin k0_t1_loop.trips) :
    tripInv1 (F := F) c arg2 harg2 arg3 harg3 arg4 harg4 arg5 harg5 arg6 harg6 arg7 harg7 arg8 harg8 arg9 harg9 arg10 harg10 arg11 harg11 X2 X3 X7 k.val ⟨⟩
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 k (PUnit.unit : Unit))
        (fun u => tripInv1 (F := F) c arg2 harg2 arg3 harg3 arg4 harg4 arg5 harg5 arg6 harg6 arg7 harg7 arg8 harg8 arg9 harg9 arg10 harg10 arg11 harg11 X2 X3 X7 (k.val + 1) u) := by
  have hk : k.val < 3 := Nat.lt_of_lt_of_le k.isLt k0_t1_abs.2.1
  have hK := fun inb => rd_blk (F := F) (m0 := 1) (m1 := 4112) (m2 := 256) arg3.view X3 (off := ![0, 0, 0]) (b := 0) (r := 0) (l := 256 * 0) rfl inb
  have hQ2 := fun inb => rd_blk (F := F) (m0 := 1) (m1 := 256) (m2 := 256) arg2.view X2 (off1_1_0 k) inb
  have hQ3 := fun inb => rd_blk (F := F) (m0 := 1) (m1 := 256) (m2 := 256) arg2.view X2 (off1_1_256 k) inb
  have hQ4 := fun inb => rd_blk (F := F) (m0 := 1) (m1 := 256) (m2 := 256) arg2.view X2 (off1_2_0 k) inb
  have hQ5 := fun inb => rd_blk (F := F) (m0 := 1) (m1 := 256) (m2 := 256) arg2.view X2 (off1_2_256 k) inb
  have hlo := fun inb => rd_blk (F := F) (m0 := 1) (m1 := 144) (m2 := 2048) arg7.view X7 (off := ![0, 0, 0]) (b := 0) (r := 0) (l := 0) rfl inb
  have hhi := fun inb => rd_blk (F := F) (m0 := 1) (m1 := 144) (m2 := 2176) arg7.view X7 (off := ![0, 0, 2048]) (b := 0) (r := 0) (l := 2048) rfl inb
  unfold k0_t1_body
  iintro ⟨H2, H3, H7, ⟨%f5, H5, %h5⟩, ⟨%f8, H8, %h8⟩, ⟨%f9, H9, %h9⟩, ⟨%f10, H10⟩, ⟨%f11, H11⟩⟩
  sl_exec
  sl_step
  isplitl [H2]; · iexact H2
  isplitl [H3]; · iexact H3
  isplitl [H7]; · iexact H7
  isplitl [H5]
  · iexists _; isplitl [H5]; · iexact H5
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK, hQ2, hQ3, hQ4, hQ5, hlo, hhi]
    refine agr_tile0 _ _ _ (t := 4 * k.val + 3) (1024 * (k.val + 1)) (off3_256 k) _ _ (weigh_cov _ _ rfl rfl rfl) (B0 := 256 * (4 * k.val + 3)) (by omega) (by omega) (by omega) ?_
    refine agr_tile0 _ _ _ (t := 4 * k.val + 2) (256 * (4 * k.val + 3)) (off3_0 k) _ _ (weigh_cov _ _ rfl rfl rfl) (B0 := 256 * (4 * k.val + 2)) (by omega) (by omega) (by omega) ?_
    refine agr_tile0 _ _ _ (t := 4 * k.val + 1) (256 * (4 * k.val + 2)) (off2_256 k) _ _ (weigh_read _ _ h9 rfl rfl) (B0 := 256 * (4 * k.val + 1)) (by omega) (by omega) (by omega) ?_
    exact agr_tile0 _ _ _ (t := 4 * k.val) (256 * (4 * k.val + 1)) (off2_0 k) _ _ (weigh_read _ _ h8 rfl rfl) (B0 := 1024 * k.val) (by omega) (by omega) (by omega) h5
  isplitl [H8]
  · iexists _; isplitl [H8]; · iexact H8
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK, hQ2, hQ3, hQ4, hQ5]
    exact sc_read _ _ _ _
  isplitl [H9]
  · iexists _; isplitl [H9]; · iexact H9
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK, hQ2, hQ3, hQ4, hQ5]
    exact sc_read _ _ _ _
  isplitl [H10]
  · iexists _; iexact H10
  iexists _; iexact H11

theorem off4_1_0 (k : Fin k0_t2_loop.trips) : k0_off4 k 1#32 0#32 = ![0, 256 * (4 * k.val + 2), 256 * 1] :=
  (by decide +kernel : ∀ k : Fin k0_t2_loop.trips, k0_off4 k 1#32 0#32 = ![0, 256 * (4 * k.val + 2), 256 * 1]) k
theorem off4_1_256 (k : Fin k0_t2_loop.trips) : k0_off4 k 1#32 256#32 = ![0, 256 * (4 * k.val + 3), 256 * 1] :=
  (by decide +kernel : ∀ k : Fin k0_t2_loop.trips, k0_off4 k 1#32 256#32 = ![0, 256 * (4 * k.val + 3), 256 * 1]) k
theorem off4_2_0 (k : Fin k0_t2_loop.trips) : k0_off4 k 2#32 0#32 = ![0, 256 * (4 * (k.val + 1)), 256 * 1] :=
  (by decide +kernel : ∀ k : Fin k0_t2_loop.trips, k0_off4 k 2#32 0#32 = ![0, 256 * (4 * (k.val + 1)), 256 * 1]) k
theorem off4_2_256 (k : Fin k0_t2_loop.trips) : k0_off4 k 2#32 256#32 = ![0, 256 * (4 * (k.val + 1) + 1), 256 * 1] :=
  (by decide +kernel : ∀ k : Fin k0_t2_loop.trips, k0_off4 k 2#32 256#32 = ![0, 256 * (4 * (k.val + 1) + 1), 256 * 1]) k
theorem off5_0 (k : Fin k0_t2_loop.trips) : k0_off5 k 0#32 = ![0, 256 * (4 * k.val), 128] :=
  (by decide +kernel : ∀ k : Fin k0_t2_loop.trips, k0_off5 k 0#32 = ![0, 256 * (4 * k.val), 128]) k
theorem off5_256 (k : Fin k0_t2_loop.trips) : k0_off5 k 256#32 = ![0, 256 * (4 * k.val + 1), 128] :=
  (by decide +kernel : ∀ k : Fin k0_t2_loop.trips, k0_off5 k 256#32 = ![0, 256 * (4 * k.val + 1), 128]) k
theorem off6_0 (k : Fin k0_t2_loop.trips) : k0_off6 k 0#32 = ![0, 256 * (4 * k.val + 2), 128] :=
  (by decide +kernel : ∀ k : Fin k0_t2_loop.trips, k0_off6 k 0#32 = ![0, 256 * (4 * k.val + 2), 128]) k
theorem off6_256 (k : Fin k0_t2_loop.trips) : k0_off6 k 256#32 = ![0, 256 * (4 * k.val + 3), 128] :=
  (by decide +kernel : ∀ k : Fin k0_t2_loop.trips, k0_off6 k 256#32 = ![0, 256 * (4 * k.val + 3), 128]) k

/-- What holds before trip `k` of head 1's loop: the output rows of the trips before, and the two score buffers of the trip's
    first two tiles. -/
abbrev tripInv2 (c : Dev nD) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (X2 : BufTy.Contents (Elt F) arg2.view.ty) (X3 : BufTy.Contents (Elt F) arg3.view.ty) (X7 : BufTy.Contents (Elt F) arg7.view.ty) (k : ℕ) (_u : Unit) : sProp 𝕄 :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7)
    ∗ (∃ f, (arg5.view.loc (c : Thread nD τ) ↦[arg5.view.set]{fullShare} f) ∗ ⌜Agr (arg2.view.read (Elt F) X2) (arg3.view.read (Elt F) X3) (arg7.view.read (Elt F) X7) (arg5.view.read (Elt F) f) 4112 (1024 * k)⌝)
    ∗ (∃ f, (arg10.view.loc (c : Thread nD τ) ↦[arg10.view.set]{fullShare} f) ∗ ⌜arg10.view.read (Elt F) f = scRows (arg2.view.read (Elt F) X2) (arg3.view.read (Elt F) X3) 1 (256 * (4 * k))⌝)
    ∗ (∃ f, (arg11.view.loc (c : Thread nD τ) ↦[arg11.view.set]{fullShare} f) ∗ ⌜arg11.view.read (Elt F) f = scRows (arg2.view.read (Elt F) X2) (arg3.view.read (Elt F) X3) 1 (256 * (4 * k + 1))⌝)
    ∗ (∃ f, (arg8.view.loc (c : Thread nD τ) ↦[arg8.view.set]{fullShare} f))
    ∗ (∃ f, (arg9.view.loc (c : Thread nD τ) ↦[arg9.view.set]{fullShare} f)))

theorem trip2 (𝒱 : Variants) (c : Dev nD) (bd : Option 𝒱.V) (E : Set ℕ) (i : grid0.Coords) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (v290 : FVec F S144x256 .f32) (v297 : FVec F S2176x256 .bf16) (X2 : BufTy.Contents (Elt F) arg2.view.ty) (X3 : BufTy.Contents (Elt F) arg3.view.ty) (X7 : BufTy.Contents (Elt F) arg7.view.ty) (k : Fin k0_t2_loop.trips) :
    tripInv2 (F := F) c arg2 harg2 arg3 harg3 arg4 harg4 arg5 harg5 arg6 harg6 arg7 harg7 arg8 harg8 arg9 harg9 arg10 harg10 arg11 harg11 X2 X3 X7 k.val ⟨⟩
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 v290 v297 k (PUnit.unit : Unit))
        (fun u => tripInv2 (F := F) c arg2 harg2 arg3 harg3 arg4 harg4 arg5 harg5 arg6 harg6 arg7 harg7 arg8 harg8 arg9 harg9 arg10 harg10 arg11 harg11 X2 X3 X7 (k.val + 1) u) := by
  have hk : k.val < 3 := Nat.lt_of_lt_of_le k.isLt k0_t2_abs.2.1
  have hK := fun inb => rd_blk (F := F) (m0 := 1) (m1 := 4112) (m2 := 256) arg3.view X3 (off := ![0, 0, 256]) (b := 0) (r := 0) (l := 256 * 1) rfl inb
  have hQ2 := fun inb => rd_blk (F := F) (m0 := 1) (m1 := 256) (m2 := 256) arg2.view X2 (off4_1_0 k) inb
  have hQ3 := fun inb => rd_blk (F := F) (m0 := 1) (m1 := 256) (m2 := 256) arg2.view X2 (off4_1_256 k) inb
  have hQ4 := fun inb => rd_blk (F := F) (m0 := 1) (m1 := 256) (m2 := 256) arg2.view X2 (off4_2_0 k) inb
  have hQ5 := fun inb => rd_blk (F := F) (m0 := 1) (m1 := 256) (m2 := 256) arg2.view X2 (off4_2_256 k) inb
  have hlo := fun inb => rd_blk (F := F) (m0 := 1) (m1 := 144) (m2 := 2048) arg7.view X7 (off := ![1, 0, 0]) (b := 1) (r := 0) (l := 0) rfl inb
  have hhi := fun inb => rd_blk (F := F) (m0 := 1) (m1 := 144) (m2 := 2176) arg7.view X7 (off := ![1, 0, 2048]) (b := 1) (r := 0) (l := 2048) rfl inb
  unfold k0_t2_body
  iintro ⟨H2, H3, H7, ⟨%f5, H5, %h5⟩, ⟨%f10, H10, %h10⟩, ⟨%f11, H11, %h11⟩, ⟨%f8, H8⟩, ⟨%f9, H9⟩⟩
  sl_exec
  sl_step
  isplitl [H2]; · iexact H2
  isplitl [H3]; · iexact H3
  isplitl [H7]; · iexact H7
  isplitl [H5]
  · iexists _; isplitl [H5]; · iexact H5
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK, hQ2, hQ3, hQ4, hQ5, hlo, hhi]
    refine agr_tile1 _ _ _ (t := 4 * k.val + 3) (1024 * (k.val + 1)) (off6_256 k) _ _ (weigh_cov _ _ rfl rfl rfl) (B1 := 256 * (4 * k.val + 3)) (by omega) (by omega) (by omega) ?_
    refine agr_tile1 _ _ _ (t := 4 * k.val + 2) (256 * (4 * k.val + 3)) (off6_0 k) _ _ (weigh_cov _ _ rfl rfl rfl) (B1 := 256 * (4 * k.val + 2)) (by omega) (by omega) (by omega) ?_
    refine agr_tile1 _ _ _ (t := 4 * k.val + 1) (256 * (4 * k.val + 2)) (off5_256 k) _ _ (weigh_read _ _ h11 rfl rfl) (B1 := 256 * (4 * k.val + 1)) (by omega) (by omega) (by omega) ?_
    exact agr_tile1 _ _ _ (t := 4 * k.val) (256 * (4 * k.val + 1)) (off5_0 k) _ _ (weigh_read _ _ h10 rfl rfl) (B1 := 1024 * k.val) (by omega) (by omega) (by omega) h5
  isplitl [H10]
  · iexists _; isplitl [H10]; · iexact H10
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK, hQ2, hQ3, hQ4, hQ5]
    exact sc_read _ _ _ _
  isplitl [H11]
  · iexists _; isplitl [H11]; · iexact H11
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK, hQ2, hQ3, hQ4, hQ5]
    exact sc_read _ _ _ _
  isplitl [H8]
  · iexists _; iexact H8
  iexists _; iexact H9

end Cert.KernelIdeal.Hand
-- ==== Proof.Body.lean ====
/-
  The whole body at one grid point, run once through both loops: the output block ends at `out` of the point's blocks.
-/
module

public import proofs.«01_k».proof.Proof.Trip

@[expose] public section

set_option maxRecDepth 8192
set_option maxHeartbeats 4000000
set_option warn.classDefReducibility false

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The invariant of loop 1 with the transposed values named by what they hold. -/
abbrev loopInv1 (c : Dev nD) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (X2 : BufTy.Contents (Elt F) arg2.view.ty) (X3 : BufTy.Contents (Elt F) arg3.view.ty) (X4 : BufTy.Contents (Elt F) arg4.view.ty) (k : ℕ) (u : Unit) : sProp 𝕄 :=
  iprop(∃ X7, ⌜arg7.view.read (Elt F) X7 = turned (arg4.view.read (Elt F) X4)⌝ ∗ tripInv1 (F := F) c arg2 harg2 arg3 harg3 arg4 harg4 arg5 harg5 arg6 harg6 arg7 harg7 arg8 harg8 arg9 harg9 arg10 harg10 arg11 harg11 X2 X3 X7 k u)

theorem loopStep1 (𝒱 : Variants) (c : Dev nD) (bd : Option 𝒱.V) (E : Set ℕ) (i : grid0.Coords) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (X2 : BufTy.Contents (Elt F) arg2.view.ty) (X3 : BufTy.Contents (Elt F) arg3.view.ty) (X4 : BufTy.Contents (Elt F) arg4.view.ty) (k : Fin k0_t1_loop.trips) :
    loopInv1 (F := F) c arg2 harg2 arg3 harg3 arg4 harg4 arg5 harg5 arg6 harg6 arg7 harg7 arg8 harg8 arg9 harg9 arg10 harg10 arg11 harg11 X2 X3 X4 k.val ⟨⟩
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 k (PUnit.unit : Unit))
        (fun u => loopInv1 (F := F) c arg2 harg2 arg3 harg3 arg4 harg4 arg5 harg5 arg6 harg6 arg7 harg7 arg8 harg8 arg9 harg9 arg10 harg10 arg11 harg11 X2 X3 X4 (k.val + 1) u) := by
  iintro ⟨%X7, %h7, H⟩
  iapply (wp_wand_r Idealize.ShloMosaic.frame (wpE (defs₀ (F := F)) 𝒱 (c : Thread nD τ) bd) E)
  isplitl [H]
  · iapply (trip1 𝒱 c bd E i arg2 harg2 arg3 harg3 arg4 harg4 arg5 harg5 arg6 harg6 arg7 harg7 arg8 harg8 arg9 harg9 arg10 harg10 arg11 harg11 X2 X3 X7 k)
    iexact H
  iintro %u H
  iexists X7
  isplitr
  · ipureintro; exact h7
  iexact H

/-- The invariant of loop 2 with the transposed values named by what they hold. -/
abbrev loopInv2 (c : Dev nD) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (X2 : BufTy.Contents (Elt F) arg2.view.ty) (X3 : BufTy.Contents (Elt F) arg3.view.ty) (X4 : BufTy.Contents (Elt F) arg4.view.ty) (k : ℕ) (u : Unit) : sProp 𝕄 :=
  iprop(∃ X7, ⌜arg7.view.read (Elt F) X7 = turned (arg4.view.read (Elt F) X4)⌝ ∗ tripInv2 (F := F) c arg2 harg2 arg3 harg3 arg4 harg4 arg5 harg5 arg6 harg6 arg7 harg7 arg8 harg8 arg9 harg9 arg10 harg10 arg11 harg11 X2 X3 X7 k u)

theorem loopStep2 (𝒱 : Variants) (c : Dev nD) (bd : Option 𝒱.V) (E : Set ℕ) (i : grid0.Coords) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (v290 : FVec F S144x256 .f32) (v297 : FVec F S2176x256 .bf16) (X2 : BufTy.Contents (Elt F) arg2.view.ty) (X3 : BufTy.Contents (Elt F) arg3.view.ty) (X4 : BufTy.Contents (Elt F) arg4.view.ty) (k : Fin k0_t2_loop.trips) :
    loopInv2 (F := F) c arg2 harg2 arg3 harg3 arg4 harg4 arg5 harg5 arg6 harg6 arg7 harg7 arg8 harg8 arg9 harg9 arg10 harg10 arg11 harg11 X2 X3 X4 k.val ⟨⟩
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 v290 v297 k (PUnit.unit : Unit))
        (fun u => loopInv2 (F := F) c arg2 harg2 arg3 harg3 arg4 harg4 arg5 harg5 arg6 harg6 arg7 harg7 arg8 harg8 arg9 harg9 arg10 harg10 arg11 harg11 X2 X3 X4 (k.val + 1) u) := by
  iintro ⟨%X7, %h7, H⟩
  iapply (wp_wand_r Idealize.ShloMosaic.frame (wpE (defs₀ (F := F)) 𝒱 (c : Thread nD τ) bd) E)
  isplitl [H]
  · iapply (trip2 𝒱 c bd E i arg2 harg2 arg3 harg3 arg4 harg4 arg5 harg5 arg6 harg6 arg7 harg7 arg8 harg8 arg9 harg9 arg10 harg10 arg11 harg11 v290 v297 X2 X3 X7 k)
    iexact H
  iintro %u H
  iexists X7
  isplitr
  · ipureintro; exact h7
  iexact H

theorem kernelRun (𝒱 : Variants) (c : Dev nD) (bd : Option 𝒱.V) (E : Set ℕ) (i : grid0.Coords) (arg2 : Memref sig .tc .vmem S1x4112x512 .bf16) (harg2 : arg2.IsWhole) (arg3 : Memref sig .tc .vmem S1x4112x512 .bf16) (harg3 : arg3.IsWhole) (arg4 : Memref sig .tc .vmem S1x4112x256 .bf16) (harg4 : arg4.IsWhole) (arg5 : Memref sig .tc .vmem S1x4112x256 .bf16) (harg5 : arg5.IsWhole) (arg6 : Memref sig .tc .vmem S4224x128 .f32) (harg6 : arg6.IsWhole) (arg7 : Memref sig .tc .vmem S2x144x4224 .bf16) (harg7 : arg7.IsWhole) (arg8 : Memref sig .tc .vmem S4120x256 .f32) (harg8 : arg8.IsWhole) (arg9 : Memref sig .tc .vmem S4120x256 .f32) (harg9 : arg9.IsWhole) (arg10 : Memref sig .tc .vmem S4120x256 .f32) (harg10 : arg10.IsWhole) (arg11 : Memref sig .tc .vmem S4120x256 .f32) (harg11 : arg11.IsWhole) (X2 : BufTy.Contents (Elt F) arg2.view.ty) (X3 : BufTy.Contents (Elt F) arg3.view.ty) (X4 : BufTy.Contents (Elt F) arg4.view.ty)
    (K : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f) ∗ ⌜arg5.view.read (Elt F) f = out (arg2.view.read (Elt F) X2) (arg3.view.read (Elt F) X3) (turned (arg4.view.read (Elt F) X4))⌝) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K ⟨⟩))
      ⊢ wp frame (wpE (defs₀ (F := F)) 𝒱 (c : Thread nD τ) bd) E (cc0_attention (F := F) i arg2 harg2 arg3 harg3 arg4 harg4 arg5 harg5 arg6 harg6 arg7 harg7 arg8 harg8 arg9 harg9 arg10 harg10 arg11 harg11) K := by
  have hV0 := fun inb => rd_blk (F := F) (m0 := 1) (m1 := 4112) (m2 := 128) arg4.view X4 (off := ![0, 0, 0]) (b := 0) (r := 0) (l := 128 * 0) rfl inb
  have hV1 := fun inb => rd_blk (F := F) (m0 := 1) (m1 := 4112) (m2 := 128) arg4.view X4 (off := ![0, 0, 128]) (b := 0) (r := 0) (l := 128 * 1) rfl inb
  have hK0 := fun inb => rd_blk (F := F) (m0 := 1) (m1 := 4112) (m2 := 256) arg3.view X3 (off := ![0, 0, 0]) (b := 0) (r := 0) (l := 256 * 0) rfl inb
  have hKl0 := fun inb => rd_blk (F := F) (m0 := 1) (m1 := 2048) (m2 := 256) arg3.view X3 (off := ![0, 0, 0]) (b := 0) (r := 0) (l := 256 * 0) rfl inb
  have hKh0 := fun inb => rd_blk (F := F) (m0 := 1) (m1 := 2064) (m2 := 256) arg3.view X3 (off := ![0, 2048, 0]) (b := 0) (r := 2048) (l := 256 * 0) rfl inb
  have hA0 := fun inb => rd_blk (F := F) (m0 := 1) (m1 := 256) (m2 := 256) arg2.view X2 (off := ![0, 0, 0]) (b := 0) (r := 256 * (4 * 0)) (l := 256 * 0) rfl inb
  have hA1 := fun inb => rd_blk (F := F) (m0 := 1) (m1 := 256) (m2 := 256) arg2.view X2 (off := ![0, 256, 0]) (b := 0) (r := 256 * (4 * 0 + 1)) (l := 256 * 0) rfl inb
  have hA2 := fun inb => rd_blk (F := F) (m0 := 1) (m1 := 256) (m2 := 256) arg2.view X2 (off := ![0, 3584, 0]) (b := 0) (r := 256 * 14) (l := 256 * 0) rfl inb
  have hA3 := fun inb => rd_blk (F := F) (m0 := 1) (m1 := 256) (m2 := 256) arg2.view X2 (off := ![0, 3840, 0]) (b := 0) (r := 256 * 15) (l := 256 * 0) rfl inb
  have hA4 := fun inb => rd_blk (F := F) (m0 := 1) (m1 := 256) (m2 := 256) arg2.view X2 (off := ![0, 3856, 0]) (b := 0) (r := 3856) (l := 256 * 0) rfl inb
  have hK1 := fun inb => rd_blk (F := F) (m0 := 1) (m1 := 4112) (m2 := 256) arg3.view X3 (off := ![0, 0, 256]) (b := 0) (r := 0) (l := 256 * 1) rfl inb
  have hKl1 := fun inb => rd_blk (F := F) (m0 := 1) (m1 := 2048) (m2 := 256) arg3.view X3 (off := ![0, 0, 256]) (b := 0) (r := 0) (l := 256 * 1) rfl inb
  have hKh1 := fun inb => rd_blk (F := F) (m0 := 1) (m1 := 2064) (m2 := 256) arg3.view X3 (off := ![0, 2048, 256]) (b := 0) (r := 2048) (l := 256 * 1) rfl inb
  have hB0 := fun inb => rd_blk (F := F) (m0 := 1) (m1 := 256) (m2 := 256) arg2.view X2 (off := ![0, 0, 256]) (b := 0) (r := 256 * (4 * 0)) (l := 256 * 1) rfl inb
  have hB1 := fun inb => rd_blk (F := F) (m0 := 1) (m1 := 256) (m2 := 256) arg2.view X2 (off := ![0, 256, 256]) (b := 0) (r := 256 * (4 * 0 + 1)) (l := 256 * 1) rfl inb
  have hB2 := fun inb => rd_blk (F := F) (m0 := 1) (m1 := 256) (m2 := 256) arg2.view X2 (off := ![0, 3584, 256]) (b := 0) (r := 256 * 14) (l := 256 * 1) rfl inb
  have hB3 := fun inb => rd_blk (F := F) (m0 := 1) (m1 := 256) (m2 := 256) arg2.view X2 (off := ![0, 3840, 256]) (b := 0) (r := 256 * 15) (l := 256 * 1) rfl inb
  have hB4 := fun inb => rd_blk (F := F) (m0 := 1) (m1 := 256) (m2 := 256) arg2.view X2 (off := ![0, 3856, 256]) (b := 0) (r := 3856) (l := 256 * 1) rfl inb
  sl_unfold [cc0_attention]
  iintro ⟨H2, H3, H4, ⟨%f5, H5⟩, ⟨%f6, H6⟩, ⟨%f7, H7⟩, ⟨%f8, H8⟩, ⟨%f9, H9⟩, ⟨%f10, H10⟩, ⟨%f11, H11⟩, Hk⟩
  sl_exec
  sl_for (loopInv1 c arg2 harg2 arg3 harg3 arg4 harg4 arg5 harg5 arg6 harg6 arg7 harg7 arg8 harg8 arg9 harg9 arg10 harg10 arg11 harg11 X2 X3 X4) $$ [H2 H3 H5 H7 H8 H9 H10 H11]
  · intro k acc; exact loopStep1 𝒱 c bd E i arg2 harg2 arg3 harg3 arg4 harg4 arg5 harg5 arg6 harg6 arg7 harg7 arg8 harg8 arg9 harg9 arg10 harg10 arg11 harg11 X2 X3 X4 k
  · iexists _
    isplitr
    rotate_left
    · isplitl [H2]; · iexact H2
      isplitl [H3]; · iexact H3
      isplitl [H7]; · iexact H7
      isplitl [H5]
      · iexists _; isplitl [H5]; · iexact H5
        ipureintro; exact agr_zero _
      isplitl [H8]
      · iexists _; isplitl [H8]; · iexact H8
        ipureintro
        sl_open_run
        simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK0, hA0, hA1]
        exact sc_read _ _ _ _
      isplitl [H9]
      · iexists _; isplitl [H9]; · iexact H9
        ipureintro
        sl_open_run
        simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK0, hA0, hA1]
        exact sc_read _ _ _ _
      isplitl [H10]; · iexists _; iexact H10
      iexists _; iexact H11
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hV0, hV1]
    exact turn_run _ _ _ _
  iintro %acc ⟨%X7, %h7, H2, H3, H7, ⟨%g5, H5, %h5⟩, ⟨%g8, H8, %h8⟩, ⟨%g9, H9, %h9⟩, ⟨%g10, H10⟩, ⟨%g11, H11⟩⟩
  have hlo0 := fun inb => rd_blk (F := F) (m0 := 1) (m1 := 144) (m2 := 2048) arg7.view X7 (off := ![0, 0, 0]) (b := 0) (r := 0) (l := 0) rfl inb
  have hhi0 := fun inb => rd_blk (F := F) (m0 := 1) (m1 := 144) (m2 := 2176) arg7.view X7 (off := ![0, 0, 2048]) (b := 0) (r := 0) (l := 2048) rfl inb
  sl_exec
  sl_for (loopInv2 c arg2 harg2 arg3 harg3 arg4 harg4 arg5 harg5 arg6 harg6 arg7 harg7 arg8 harg8 arg9 harg9 arg10 harg10 arg11 harg11 X2 X3 X4) $$ [H2 H3 H5 H7 H8 H9 H10 H11]
  · intro k acc; exact loopStep2 𝒱 c bd E i arg2 harg2 arg3 harg3 arg4 harg4 arg5 harg5 arg6 harg6 arg7 harg7 arg8 harg8 arg9 harg9 arg10 harg10 arg11 harg11 _ _ X2 X3 X4 k
  · iexists X7
    isplitr
    · ipureintro; exact h7
    isplitl [H2]; · iexact H2
    isplitl [H3]; · iexact H3
    isplitl [H7]; · iexact H7
    isplitl [H5]
    · iexists _; isplitl [H5]; · iexact H5
      ipureintro
      sl_open_run
      simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK0, hKl0, hKh0, hA2, hA3, hA4, hlo0, hhi0]
      refine agr_last0 _ _ _ _ _ (weigh_cov _ _ rfl rfl rfl) ?_
      refine agr_tile0 _ _ _ (t := 15) 3856 rfl _ _ (weigh_cov _ _ rfl rfl rfl) (B0 := 3840) (by omega) (by omega) (by omega) ?_
      refine agr_tile0 _ _ _ (t := 14) 3840 rfl _ _ (weigh_cov _ _ rfl rfl rfl) (B0 := 3584) (by omega) (by omega) (by omega) ?_
      refine agr_tile0 _ _ _ (t := 13) 3584 rfl _ _ (weigh_read _ _ h9 rfl rfl) (B0 := 3328) (by omega) (by omega) (by omega) ?_
      exact agr_tile0 _ _ _ (t := 12) 3328 rfl _ _ (weigh_read _ _ h8 rfl rfl) (B0 := 1024 * 3) (by omega) (by omega) (by omega) h5
    isplitl [H10]
    · iexists _; isplitl [H10]; · iexact H10
      ipureintro
      sl_open_run
      simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK1, hB0, hB1]
      exact sc_read _ _ _ _
    isplitl [H11]
    · iexists _; isplitl [H11]; · iexact H11
      ipureintro
      sl_open_run
      simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK1, hB0, hB1]
      exact sc_read _ _ _ _
    isplitl [H8]; · iexists _; iexact H8
    iexists _; iexact H9
  iintro %acc2 ⟨%Y7, %k7, H2, H3, H7, ⟨%l5, H5, %k5⟩, ⟨%l10, H10, %k10⟩, ⟨%l11, H11, %k11⟩, ⟨%l8, H8⟩, ⟨%l9, H9⟩⟩
  have hlo1 := fun inb => rd_blk (F := F) (m0 := 1) (m1 := 144) (m2 := 2048) arg7.view Y7 (off := ![1, 0, 0]) (b := 1) (r := 0) (l := 0) rfl inb
  have hhi1 := fun inb => rd_blk (F := F) (m0 := 1) (m1 := 144) (m2 := 2176) arg7.view Y7 (off := ![1, 0, 2048]) (b := 1) (r := 0) (l := 2048) rfl inb
  sl_exec
  sl_step
  iapply Hk
  isplitl [H2]; · iexact H2
  isplitl [H3]; · iexact H3
  isplitl [H4]; · iexact H4
  isplitl [H5]
  · iexists _; isplitl [H5]; · iexact H5
    ipureintro
    sl_open_run
    simp only [s13, s23, s33, s51, s54, s58, s62, s81, s85, s92, s95, s14, s24, s34, s52, s55, s63, s86, s93, s96, s6, s16, s26, s36, s7, s17, s27, s37, s60, s83, w11, w56, w29, w31, w90, w20, w40, w66, w89, w70, w77, w79, w99, w101, w109, w112, w1, s105, s106, s107, s47, s48, hK1, hKl1, hKh1, hB2, hB3, hB4, hlo1, hhi1]
    rw [← k7]
    refine agr_full ?_
    refine agr_last1 _ _ _ _ _ (weigh_cov _ _ rfl rfl rfl) ?_
    refine agr_tile1 _ _ _ (t := 15) 3856 rfl _ _ (weigh_cov _ _ rfl rfl rfl) (B1 := 3840) (by omega) (by omega) (by omega) ?_
    refine agr_tile1 _ _ _ (t := 14) 3840 rfl _ _ (weigh_cov _ _ rfl rfl rfl) (B1 := 3584) (by omega) (by omega) (by omega) ?_
    refine agr_tile1 _ _ _ (t := 13) 3584 rfl _ _ (weigh_read _ _ k11 rfl rfl) (B1 := 3328) (by omega) (by omega) (by omega) ?_
    exact agr_tile1 _ _ _ (t := 12) 3328 rfl _ _ (weigh_read _ _ k10 rfl rfl) (B1 := 1024 * 3) (by omega) (by omega) (by omega) k5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdeal.Hand
-- ==== Proof.Run.lean ====
/-
  The run of the whole program: the pipeline's proof data, the body at every grid point, the launch with the host lines
  around the region, and the frame.
-/
module

public import proofs.«01_k».proof.Proof.Body
public import proofs.«01_k».proof.Proof.Gen.KernelIdeal.Frame
public import Idealize.ShloMosaic.Lib.Pipeline.FrameSuffix
public import Idealize.ShloMosaic.Lib.Claim

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What the body leaves in the output block at point `t`: `out` of the point's query, key and value blocks. -/
def blockOut (c : Dev nD) (t : Fin cfg0.N) : S1x4112x256.Idx → Elt F .bf16 :=
  out (iblk m c 0 t) (iblk m c 1 t) (turned (iblk m c 2 t))

/-- The proof data: inputs keep their blocks, the output block ends at `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = blockOut m c t := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d

/-- The invariant of the pipeline, scratch by scratch. -/
theorem inv_open (c : Dev nD) : (Pipeline.ΦA spec0 c : sProp 𝕄)
    = iprop(iprop((∃ f, ((Memref.whole cc0_scratch0).view.loc (c : Thread nD τ) ↦[(Memref.whole cc0_scratch0).view.set]{fullShare} f))
      ∗ (∃ f, ((Memref.whole cc0_scratch1).view.loc (c : Thread nD τ) ↦[(Memref.whole cc0_scratch1).view.set]{fullShare} f))
      ∗ (∃ f, ((Memref.whole cc0_scratch2).view.loc (c : Thread nD τ) ↦[(Memref.whole cc0_scratch2).view.set]{fullShare} f))
      ∗ (∃ f, ((Memref.whole cc0_scratch3).view.loc (c : Thread nD τ) ↦[(Memref.whole cc0_scratch3).view.set]{fullShare} f))
      ∗ (∃ f, ((Memref.whole cc0_scratch4).view.loc (c : Thread nD τ) ↦[(Memref.whole cc0_scratch4).view.set]{fullShare} f))
      ∗ (∃ f, ((Memref.whole cc0_scratch5).view.loc (c : Thread nD τ) ↦[(Memref.whole cc0_scratch5).view.set]{fullShare} f)))
      ∗ (∃ r, prngReg c r)) := by
  unfold Pipeline.ΦA
  rw [scopedRest0_eq]
  simp only [Memref.view_whole, View.set_whole]

/-- What the body starts from at point `t`. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body ends at. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    left0, left1, left2, left3, inv_open]
  unfold owns
  iintro ⟨⟨⟨S0, S1, S2, S3, S4, S5⟩, Hg⟩, Ho, ⟨%d0, %f0, %e0, H0⟩, ⟨%d1, %f1, %e1, H1⟩, ⟨%d2, %f2, %e2, H2⟩, ⟨%d3, %f3, %e3, H3⟩⟩
  iapply (kernelRun Variants.none c none Set.univ _ _ _ _ _ _ _ _ _ _ _ _ _ _ _ _ _ _ _ _ _ f0 f1 f2 _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, ⟨%g, H3, %eg⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    · iexact Hg
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists g; isplitr
  · ipureintro
    unfold blockOut
    rw [← e0, ← e1, ← e2]
    exact eg
  iexact H3

theorem row_at (t : Fin cfg0.N) :
    defs₀ (F := F) .tc cfg0.body (cfg0.bodyArgs t (cfg0.slots t)) = bodyAt0 t := by
  unfold defs₀; rw [Defs.onTc_tc]

theorem every_point (c : Dev nD) : BodyObligation (dats (F := F) m 0 c) (defs₀ (F := F)) Variants.none () Set.univ := fun t => by
  rw [bigSep_W0, bigSep_W0, row_at]
  exact triple_restated (point_run m c t) rfl .rfl fun _ => .rfl

set_option backward.isDefEq.respectTransparency.types false in
/-- The whole program ends, every array at what the proof data computes, every counter at zero. -/
theorem whole_run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (every_point m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The arguments end as they began, the counters at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (whole_run m ρ)))
    ((θ_run defs _ _).mono (fun _ h => h.2) (whole_run m ρ))

end Cert.KernelIdeal.Hand

end
-- ==== Proof.RefRun.lean ====
/-
  The reference's run and what each of its buffers holds at an index.
-/
module

public import proofs.«01_k».proof.Proof.Gen.ReferenceIdeal.Run
public import proofs.«01_k».proof.Proof.Gen.ReferenceIdeal.Read

@[expose] public section

end
-- ==== Proof.Frames.lean ====
/-
  The frames: the arguments end unchanged and every semaphore counter is zero again.
-/
module

public import proofs.«01_k».proof.Defs
public import proofs.«01_k».proof.Proof.Run
public import proofs.«01_k».proof.Proof.RefRun
public import proofs.«01_k».proof.Proof.Gen.Kernel
public import Idealize.ShloMosaic.Lib.Quiescent
public import Idealize.ShloMosaic.Lib.Claim

@[expose] public section

noncomputable section

namespace Cert.Proof

open Idealize.ShloMosaic Idealize.SL.Sem

theorem frame_ideal : Cert.quiescent_KernelIdeal := fun m ρ _ => Cert.KernelIdeal.Hand.args_kept (F := Ideal) m ρ

/-- The two programs have one text: their body tables agree row by row. -/
theorem rows_agree : (Cert.KernelIdeal.defs₀ (F := Bits)) = Cert.Kernel.defs₀ (F := Bits) := by
  unfold Cert.KernelIdeal.defs₀ Cert.Kernel.defs₀
  refine congrArg Defs.onTc (funext fun ℓ => funext fun a => ?_)
  match ℓ, a with
  | 0, (t, s) => rfl

theorem tables_agree : (Cert.KernelIdeal.defs (F := Bits)) = Cert.Kernel.defs (F := Bits) :=
  congrArg (fun d => Pipeline.defs (Cert.KernelIdeal.pcfgs (F := Bits)) d) rows_agree

theorem frame_kernel : Cert.quiescent_Kernel := fun m ρ _ => by
  have h := Cert.KernelIdeal.Hand.args_kept (F := Bits) m ρ
  rw [tables_agree] at h
  exact h

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Math.lean ====
/-
  The arithmetic of one row of attention over the extended reals: the values under exponential weights, as the kernel forms
  them (powers of two, one inverse) and as the reference forms them (exponentials, one quotient each).
-/
module

public import Idealize.ShloMosaic.Lib.IdealHost
public import Idealize.ShloMosaic.PureOps.Ideal.Laws
public import Mathlib.Analysis.SpecialFunctions.Pow.Real

@[expose] public section

noncomputable section

namespace Cert.Hand

open Idealize.ShloMosaic

/-- The word of negative infinity. -/
theorem bits_bot : Ideal.ofBits .f32 0xFF800000#32 = ⊥ := by simp [Ideal.ofBits, Ideal.ieee]
/-- The word of positive infinity. -/
theorem bits_top : Ideal.ofBits .f32 0x7F800000#32 = ⊤ := by simp [Ideal.ofBits, Ideal.ieee]
/-- The word of 192. -/
theorem bits_192 : Ideal.ofBits .f32 0x43400000#32 = ((192 : ℝ) : EReal) := by
  simp [Ideal.ofBits, Ideal.ieee, -EReal.coe_mul]; norm_num
/-- The word of two. -/
theorem bits_two : Ideal.ofBits .f32 0x40000000#32 = ((2 : ℝ) : EReal) := by
  simp [Ideal.ofBits, Ideal.ieee, -EReal.coe_mul]; norm_num

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum times a real that is not negative. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The maximum of reals, over at least one, is a real. -/
theorem fold_max_real {n : ℕ} (hn : 0 < n) (f : Fin n → EReal) (hf : ∀ k, ∃ r : ℝ, f k = (r : EReal)) :
    ∃ r : ℝ, Finset.fold max (⊥ : EReal) f Finset.univ = (r : EReal) := by
  have key : ∀ s : Finset (Fin n), s = ∅ ∨ ∃ r : ℝ, Finset.fold max (⊥ : EReal) f s = (r : EReal) := by
    intro s
    induction s using Finset.induction_on with
    | empty => exact Or.inl rfl
    | insert a s ha ih =>
      right
      obtain ⟨x, hx⟩ := hf a
      rw [Finset.fold_insert ha, hx]
      rcases ih with rfl | ⟨r, hr⟩
      · exact ⟨x, by simp⟩
      · exact ⟨max x r, by rw [hr]; exact (EReal.coe_strictMono.monotone.map_max).symm⟩
  rcases key Finset.univ with h | h
  · have : (⟨0, hn⟩ : Fin n) ∈ (Finset.univ : Finset (Fin n)) := Finset.mem_univ _
    rw [h] at this
    exact absurd this (Finset.notMem_empty _)
  · exact h

/-- Division of a real by a real that is not zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The weighted mean of the values `v` under the exponential weights of the real scores `f`. -/
def attn {n : ℕ} (f : Fin n → ℝ) (v : Fin n → EReal) : EReal :=
  ∑ k, v k * ((Real.exp (f k) / ∑ j, Real.exp (f j) : ℝ) : EReal)

/-- A sum of exponentials is positive. -/
theorem exp_sum_pos {n : ℕ} (hn : 0 < n) (f : Fin n → ℝ) : 0 < ∑ j, Real.exp (f j) :=
  Finset.sum_pos (fun i _ => Real.exp_pos _) ⟨⟨0, hn⟩, Finset.mem_univ _⟩

/-- Shifting every score leaves the weights. -/
theorem weight_shift {n : ℕ} (f : Fin n → ℝ) (μ : ℝ) (k : Fin n) :
    Real.exp (f k - μ) / ∑ j, Real.exp (f j - μ) = Real.exp (f k) / ∑ j, Real.exp (f j) := by
  simp only [Real.exp_sub]
  rw [← Finset.sum_div]
  have := (Real.exp_pos μ).ne'
  field_simp

/-- The reference's row: exponentials of the shifted scores, each over their sum. -/
theorem attn_ref {n : ℕ} (hn : 0 < n) (f : Fin n → ℝ) (μ : ℝ) (v : Fin n → EReal) :
    ∑ k, v k * Ideal.div (Ideal.exp ((f k : EReal) - (μ : EReal))) (0 + ∑ j, Ideal.exp ((f j : EReal) - (μ : EReal))) = attn f v := by
  unfold attn
  refine Finset.sum_congr rfl fun k _ => ?_
  have e : ∀ j, Ideal.exp ((f j : EReal) - (μ : EReal)) = ((Real.exp (f j - μ) : ℝ) : EReal) := fun j => by
    rw [← EReal.coe_sub]; rfl
  simp only [e]
  rw [← coe_sum, zero_add, div_real _ _ (exp_sum_pos hn fun j => f j - μ).ne', weight_shift]

/-- The kernel's row: powers of two of the shifted scores over the logarithm of two, their weighted sum times the inverse of
    their sum. -/
theorem attn_ker {n : ℕ} (hn : 0 < n) (f : Fin n → ℝ) (μ : ℝ) (s : Fin n → EReal) (hs : ∀ k, s k = ((f k / Real.log 2 : ℝ) : EReal)) (v : Fin n → EReal) :
    (∑ k, v k * Ideal.exp2 (s k - (μ : EReal))) * Ideal.div 1 (∑ j, 1 * Ideal.exp2 (s j - (μ : EReal))) = attn f v := by
  have hl : Real.log 2 ≠ 0 := (Real.log_pos (by norm_num)).ne'
  have e : ∀ j, Ideal.exp2 (s j - (μ : EReal)) = ((Real.exp (f j - μ * Real.log 2) : ℝ) : EReal) := fun j => by
    rw [hs, ← EReal.coe_sub]
    have h : Ideal.exp2 (((f j / Real.log 2 - μ : ℝ)) : EReal) = ((Real.rpow 2 (f j / Real.log 2 - μ) : ℝ) : EReal) := rfl
    rw [h]
    congr 1
    change (2 : ℝ) ^ (f j / Real.log 2 - μ) = _
    rw [Real.rpow_def_of_pos (by norm_num)]
    congr 1
    field_simp
  simp only [e, one_mul]
  have hp := exp_sum_pos hn fun j => f j - μ * Real.log 2
  rw [← coe_sum, ← EReal.coe_one, div_real _ _ hp.ne', sum_mul_coe _ _ (by positivity)]
  unfold attn
  refine Finset.sum_congr rfl fun k _ => ?_
  rw [mul_assoc, ← EReal.coe_mul, ← weight_shift f (μ * Real.log 2)]
  congr 2
  field_simp

end Cert.Hand
end
-- ==== Proof.HostValue.lean ====
/-
  What the host lines before the region leave in the region's three operands: the queries scaled and packed by head, the
  keys packed by head, the values as they stand; and the packed rows' dot product, which is the heads' own.
-/
module

public import proofs.«01_k».proof.Proof.Gen.KernelIdeal.Frame
public import Idealize.ShloMosaic.Lib.Pointwise
public import proofs.«01_k».proof.Proof.Math

@[expose] public section

set_option maxRecDepth 16384
noncomputable section

namespace Cert.KernelIdeal.Hand

open Cert.KernelIdeal Cert.KernelIdeal.Gen
open Idealize.ShloMosaic Idealize.ShloMosaic.TcCoe Idealize.SL.Sem

variable {F : FTy → Type} [FloatOps F]

/-- The scale of the queries. -/
def hostScale : FVec F S_ .f32 :=
  Host.divf (constant S_ .f32 0x3F800000#32) (mulf (Host.sqrt (constant S_ .f32 0x43400000#32)) (Host.log (constant S_ .f32 0x40000000#32)))

/-- The queries scaled. -/
def scaled (q : FVec F S16x4112x4x192 .f32) : FVec F S16x4112x4x192 .f32 := mulf q (broadcastInDim S16x4112x4x192 ![] bcast_S_S16x4112x4x192 hostScale)

/-- The packed queries before the cast, from the scaled ones. -/
def packQ (q : FVec F S16x4112x4x192 .f32) : FVec F S16x4112x1024 .f32 :=
  shapeCast S16x4112x1024 (concatenate S16x4112x4x256 3
    [⟨S16x4112x4x128, extractStridedSlice S16x4112x4x128 ![0, 0, 0, 0] q slices_S16x4112x4x192_S16x4112x4x128_0_0_0_0⟩,
      ⟨S16x4112x4x128, shapeCast S16x4112x4x128 (broadcastInDim S16x4112x2x2x128 ![0, 1, 2, 3, 4] bcast_S16x4112x2x1x128_S16x4112x2x2x128_0_1_2_3_4
        (shapeCast S16x4112x2x1x128 (extractStridedSlice S16x4112x4x64 ![0, 0, 0, 128] q slices_S16x4112x4x192_S16x4112x4x64_0_0_0_128)
          shapeCasts_S16x4112x4x64_S16x4112x2x1x128)) shapeCasts_S16x4112x2x2x128_S16x4112x4x128⟩]
    concatenates_S16x4112x4x128_S16x4112x4x128_S16x4112x4x256_d3) shapeCasts_S16x4112x4x256_S16x4112x1024

/-- Which lanes of a key's pair are its own head's. -/
def ownLanes : IVec S16x4112x4x128 1 :=
  cmpi .eq (Host.shrsi (iotaInDim S16x4112x4x128 32 3) (broadcastInDim S16x4112x4x128 ![] bcast_S_S16x4112x4x128 (constantI S_ 32 6#32)))
    (andi (iotaInDim S16x4112x4x128 32 2) (broadcastInDim S16x4112x4x128 ![] bcast_S_S16x4112x4x128 (constantI S_ 32 1#32)))

/-- The packed keys before the cast. -/
def packK (k : FVec F S16x4112x4x192 .f32) : FVec F S16x4112x1024 .f32 :=
  shapeCast S16x4112x1024 (concatenate S16x4112x4x256 3
    [⟨S16x4112x4x128, extractStridedSlice S16x4112x4x128 ![0, 0, 0, 0] k slices_S16x4112x4x192_S16x4112x4x128_0_0_0_0⟩,
      ⟨S16x4112x4x128, select ownLanes (concatenate S16x4112x4x128 3
          [⟨S16x4112x4x64, extractStridedSlice S16x4112x4x64 ![0, 0, 0, 128] k slices_S16x4112x4x192_S16x4112x4x64_0_0_0_128⟩,
            ⟨S16x4112x4x64, extractStridedSlice S16x4112x4x64 ![0, 0, 0, 128] k slices_S16x4112x4x192_S16x4112x4x64_0_0_0_128⟩]
          concatenates_S16x4112x4x64_S16x4112x4x64_S16x4112x4x128_d3)
        (broadcastInDim S16x4112x4x128 ![] bcast_S_S16x4112x4x128 (constant S_ .f32 0x00000000#32))⟩]
    concatenates_S16x4112x4x128_S16x4112x4x128_S16x4112x4x256_d3) shapeCasts_S16x4112x4x256_S16x4112x1024

variable (m : (ℓ : Loc nD τ sig) → Buf (Elt F) ℓ)

theorem V_q (c : Dev nD) : V m c main_v28 = truncf .bf16 (packQ (scaled (m ((c.tc : Thread nD τ).loc main_arg0)))) bitsLt_bf16_f32 := by
  show StableHlo.after hostOps0 (fun b => m (c, b)) (Proc.devRef .tc main_v28) = _
  after_results
  rfl
theorem V_k (c : Dev nD) : V m c main_v29 = truncf .bf16 (packK (m ((c.tc : Thread nD τ).loc main_arg1))) bitsLt_bf16_f32 := by
  show StableHlo.after hostOps0 (fun b => m (c, b)) (Proc.devRef .tc main_v29) = _
  after_results
  rfl
theorem V_v (c : Dev nD) : V m c main_v30 = truncf .bf16 (shapeCast S16x4112x512 (m ((c.tc : Thread nD τ).loc main_arg2) : FVec F S16x4112x4x128 .f32) shapeCasts_S16x4112x4x128_S16x4112x512) bitsLt_bf16_f32 := by
  show StableHlo.after hostOps0 (fun b => m (c, b)) (Proc.devRef .tc main_v30) = _
  after_results
  rfl

/-- Indices of rank 4 with the same coordinates. -/
theorem ix4_same {n0 n1 n2 n3 : ℕ} {a a' : Fin n0} {b b' : Fin n1} {c c' : Fin n2} {d d' : Fin n3} (ha : a.val = a'.val) (hb : b.val = b'.val)
    (hc : c.val = c'.val) (hd : d.val = d'.val) : ix4 a b c d = ix4 a' b' c' d' := by
  rw [Fin.ext ha, Fin.ext hb, Fin.ext hc, Fin.ext hd]

/-- A head's first 128 query lanes. -/
theorem packQ_lo (q : FVec Ideal S16x4112x4x192 .f32) (b : Fin 16) (n : Fin 4112) (l : Fin 1024) (h : Fin 4) (d : Fin 192)
    (hl : l.val = 256 * h.val + d.val) (hd : d.val < 128) : packQ q (ix3 b n l) = q (ix4 b n h d) := by
  have hh := h.isLt
  pointwise [packQ]
  rw [dif_pos (by omega)]
  exact congrArg q (ix4_same rfl rfl (by dsimp only; omega) (by dsimp only; omega))

/-- A head's last 128 query lanes: the last 64 of each head of its pair. -/
theorem packQ_hi (q : FVec Ideal S16x4112x4x192 .f32) (b : Fin 16) (n : Fin 4112) (l : Fin 1024) (h h' : Fin 4) (d : Fin 192) (e : ℕ)
    (he : e < 2) (hl : l.val = 256 * h.val + 64 * e + d.val) (hd : 128 ≤ d.val) (hh' : h'.val = h.val / 2 * 2 + e) :
    packQ q (ix3 b n l) = q (ix4 b n h' d) := by
  have hh := h.isLt
  have hd' := d.isLt
  pointwise [packQ]
  rw [dif_neg (by omega)]
  exact congrArg q (ix4_same rfl rfl (by dsimp only; omega) (by dsimp only; omega))

/-- A head's first 128 key lanes. -/
theorem packK_lo (q : FVec Ideal S16x4112x4x192 .f32) (b : Fin 16) (n : Fin 4112) (l : Fin 1024) (h : Fin 4) (d : Fin 192)
    (hl : l.val = 256 * h.val + d.val) (hd : d.val < 128) : packK q (ix3 b n l) = q (ix4 b n h d) := by
  have hh := h.isLt
  pointwise [packK, ownLanes]
  rw [dif_pos (by omega)]
  exact congrArg q (ix4_same rfl rfl (by dsimp only; omega) (by dsimp only; omega))

/-- Which half of the pair's lanes is the head's own. -/
theorem own_bit : ∀ (x : Fin 128) (h : Fin 4), IntOp.cmpi CmpIPredicate.eq (IntOp.shrsi ArithUnit.host (BitVec.ofNat 32 x.val) 6#32)
    (IntOp.andi (BitVec.ofNat 32 h.val) 1#32) = if x.val / 64 = h.val % 2 then 1 else 0 := by decide +kernel

/-- A key lane as the packing writes it. -/
theorem packK_raw (q : FVec Ideal S16x4112x4x192 .f32) (b : Fin 16) (n : Fin 4112) (l : Fin 1024) (hl : ¬ l.val % 256 < 128) :
    packK q (ix3 b n l) = Scalar.select
        (IntOp.cmpi CmpIPredicate.eq (IntOp.shrsi ArithUnit.host (BitVec.ofNat 32 (l.val % 256 - 128)) 6#32)
          (IntOp.andi (BitVec.ofNat 32 (l.val / 256)) 1#32))
        (if h_1 : l.val % 256 - 128 < 64 then q (ix4 b n ⟨l.val / 256, by omega⟩ ⟨128 + (l.val % 256 - 128), by omega⟩)
        else q (ix4 b n ⟨l.val / 256, by omega⟩ ⟨128 + (l.val % 256 - 128 - 64), by omega⟩)) (0 : EReal) := by
  pointwise [packK, ownLanes]
  rw [dif_neg hl]

/-- A choice by a bit that an `if` gives. -/
theorem select_ite {α : Type} (p : Prop) [Decidable p] (a b : α) : Scalar.select (if p then 1 else 0) a b = if p then a else b := by
  unfold Scalar.select
  by_cases h : p
  · rw [if_pos h, if_pos h]; exact if_pos rfl
  · rw [if_neg h, if_neg h]; exact if_neg (by decide)

/-- A head's last 128 key lanes: its own last 64 in its half of the pair, zero in the other. -/
theorem packK_hi (q : FVec Ideal S16x4112x4x192 .f32) (b : Fin 16) (n : Fin 4112) (l : Fin 1024) (h : Fin 4) (d : Fin 192) (e : ℕ)
    (he : e < 2) (hl : l.val = 256 * h.val + 64 * e + d.val) (hd : 128 ≤ d.val) :
    packK q (ix3 b n l) = if e = h.val % 2 then q (ix4 b n h d) else (0 : EReal) := by
  have hh := h.isLt
  have hd' := d.isLt
  rw [packK_raw q b n l (by omega)]
  have ob := own_bit ⟨l.val % 256 - 128, by omega⟩ ⟨l.val / 256, by omega⟩
  refine (congrArg (fun w => Scalar.select w _ _) ob).trans ?_
  rw [select_ite]
  refine (if_congr (show _ ↔ e = h.val % 2 from ?_) ?_ rfl)
  · have e1 : (l.val % 256 - 128) / 64 = e := by omega
    have e2 : l.val / 256 = h.val := by omega
    dsimp only
    rw [e1, e2]
  · split
    · exact congrArg q (ix4_same rfl rfl (by dsimp only; omega) (by dsimp only; omega))
    · exact congrArg q (ix4_same rfl rfl (by dsimp only; omega) (by dsimp only; omega))

theorem packV_at (q : FVec Ideal S16x4112x4x128 .f32) (b : Fin 16) (n : Fin 4112) (l : Fin 512) (h : Fin 4) (d : Fin 128)
    (hl : l.val = 128 * h.val + d.val) :
    shapeCast S16x4112x512 q shapeCasts_S16x4112x4x128_S16x4112x512 (ix3 b n l) = q (ix4 b n h d) := by
  pointwise
  exact congrArg q (ix4_same rfl rfl (by dsimp only; omega) (by dsimp only; omega))

/-- The scaled queries, with the scale as a real. -/
theorem scaled_at (q : FVec Ideal S16x4112x4x192 .f32) (i : S16x4112x4x192.Idx) :
    scaled q i = q i * ((1 / (Real.sqrt 192 * Real.log 2) : ℝ) : EReal) := by
  have hl : Real.log 2 ≠ 0 := (Real.log_pos (by norm_num)).ne'
  have hs : Real.sqrt 192 ≠ 0 := (Real.sqrt_pos.2 (by norm_num)).ne'
  pointwise [scaled, hostScale]
  rw [Cert.Hand.bits_192, Cert.Hand.bits_two]
  rw [Ideal.sqrt_coe, Ideal.log_coe, if_neg (by norm_num), if_neg (by norm_num), ← EReal.coe_mul, ← EReal.coe_one, Cert.Hand.div_real _ _ (mul_ne_zero hs hl)]

/-- A sum over 256 lanes in its three stretches. -/
theorem sum_lanes (f : Fin 256 → EReal) : ∑ l, f l = ∑ r : Fin 128, f ⟨r.val, by omega⟩
    + (∑ r : Fin 64, f ⟨128 + r.val, by omega⟩ + ∑ r : Fin 64, f ⟨192 + r.val, by omega⟩) := by
  refine (Fin.sum_univ_add (a := 128) (b := 128) f).trans (congrArg₂ (· + ·) rfl ?_)
  refine (Fin.sum_univ_add (a := 64) (b := 64) fun i : Fin (64 + 64) => f (Fin.natAdd 128 i)).trans (congrArg₂ (· + ·) rfl ?_)
  exact Finset.sum_congr rfl fun r _ => congrArg f (Fin.ext (by change 128 + (64 + r.val) = 192 + r.val; omega))

/-- A sum over 192 dimensions in its two stretches. -/
theorem sum_dims (f : Fin 192 → EReal) : ∑ d, f d = ∑ r : Fin 128, f ⟨r.val, by omega⟩ + ∑ r : Fin 64, f ⟨128 + r.val, by omega⟩ :=
  (Fin.sum_univ_add (a := 128) (b := 64) f)

/-- The packed rows' dot product over a head's 256 lanes is the head's dot product over its 192 dimensions. -/
theorem packed_dot (q k : FVec Ideal S16x4112x4x192 .f32) (b : Fin 16) (n n' : Fin 4112) (h : Fin 4) (idx : Fin 256 → Fin 1024)
    (hidx : ∀ l, (idx l).val = 256 * h.val + l.val) :
    ∑ l : Fin 256, packK k (ix3 b n' (idx l)) * packQ q (ix3 b n (idx l)) = ∑ d : Fin 192, k (ix4 b n' h d) * q (ix4 b n h d) := by
  have hh := h.isLt
  rw [sum_lanes, sum_dims]
  refine congrArg₂ (· + ·) (Finset.sum_congr rfl fun r _ => ?_) ?_
  · rw [packK_lo k b n' _ h ⟨r.val, by omega⟩ (hidx _) r.isLt, packQ_lo q b n _ h ⟨r.val, by omega⟩ (hidx _) r.isLt]
  · by_cases hp : h.val % 2 = 0
    · have z : ∑ r : Fin 64, packK k (ix3 b n' (idx ⟨192 + r.val, by omega⟩)) * packQ q (ix3 b n (idx ⟨192 + r.val, by omega⟩)) = 0 :=
        Finset.sum_eq_zero fun r _ => by
          rw [packK_hi k b n' _ h ⟨128 + r.val, by omega⟩ 1 (by omega) ((hidx _).trans (by dsimp only; omega)) (by dsimp only; omega), if_neg (by omega), zero_mul]
      rw [z, add_zero]
      refine Finset.sum_congr rfl fun r _ => ?_
      rw [packK_hi k b n' _ h ⟨128 + r.val, by omega⟩ 0 (by omega) ((hidx _).trans (by dsimp only; omega)) (by dsimp only; omega), if_pos (by omega),
        packQ_hi q b n _ h h ⟨128 + r.val, by omega⟩ 0 (by omega) ((hidx _).trans (by dsimp only; omega)) (by dsimp only; omega) (by omega)]
    · have z : ∑ r : Fin 64, packK k (ix3 b n' (idx ⟨128 + r.val, by omega⟩)) * packQ q (ix3 b n (idx ⟨128 + r.val, by omega⟩)) = 0 :=
        Finset.sum_eq_zero fun r _ => by
          rw [packK_hi k b n' _ h ⟨128 + r.val, by omega⟩ 0 (by omega) ((hidx _).trans (by dsimp only; omega)) (by dsimp only; omega), if_neg (by omega), zero_mul]
      rw [z, zero_add]
      refine Finset.sum_congr rfl fun r _ => ?_
      rw [packK_hi k b n' _ h ⟨128 + r.val, by omega⟩ 1 (by omega) ((hidx _).trans (by dsimp only; omega)) (by dsimp only; omega), if_pos (by omega),
        packQ_hi q b n _ h h ⟨128 + r.val, by omega⟩ 1 (by omega) ((hidx _).trans (by dsimp only; omega)) (by dsimp only; omega) (by omega)]

/-- The score of a query and a key of real entries, as the kernel's packed rows give it. -/
theorem packed_score (q k : FVec Ideal S16x4112x4x192 .f32) (qr kr : S16x4112x4x192.Idx → ℝ) (hq : ∀ i, q i = (qr i : EReal)) (hk : ∀ i, k i = (kr i : EReal))
    (b : Fin 16) (n n' : Fin 4112) (h : Fin 4) (idx : Fin 256 → Fin 1024) (hidx : ∀ l, (idx l).val = 256 * h.val + l.val) :
    ∑ l : Fin 256, packK k (ix3 b n' (idx l)) * packQ (scaled q) (ix3 b n (idx l))
      = (((∑ d : Fin 192, qr (ix4 b n h d) * kr (ix4 b n' h d)) / Real.sqrt 192 / Real.log 2 : ℝ) : EReal) := by
  have hl : Real.log 2 ≠ 0 := (Real.log_pos (by norm_num)).ne'
  have hs : Real.sqrt 192 ≠ 0 := (Real.sqrt_pos.2 (by norm_num)).ne'
  rw [packed_dot (scaled q) k b n n' h idx hidx, Finset.sum_div, Finset.sum_div, Cert.Hand.coe_sum]
  refine Finset.sum_congr rfl fun d _ => ?_
  rw [scaled_at, hq, hk, ← EReal.coe_mul, ← EReal.coe_mul]
  congr 1
  field_simp

end Cert.KernelIdeal.Hand
end
-- ==== Proof.BlockValue.lean ====
/-
  What one grid point leaves in its output block, at an index: the values under the exponential weights of the scores.
-/
module

public import proofs.«01_k».proof.Proof.Spec
public import proofs.«01_k».proof.Proof.Math
public import Idealize.ShloMosaic.Lib.Pointwise
public import Idealize.ShloMosaic.Lib.Pointwise.IndexBridge

@[expose] public section

set_option maxRecDepth 16384
noncomputable section

namespace Cert.KernelIdeal.Hand

open Cert.KernelIdeal Cert.KernelIdeal.Gen
open Idealize.ShloMosaic

section Pieces

variable {Val : EltTy → Type} {e : EltTy} [∀ e, Nonempty (Val e)]

/-- An index under the newest piece of a list reads that piece. -/
theorem canon_hit {s : Shape} {off size : Fin s.rank → ℕ} (inb : ∀ a, off a + size a ≤ s.size a)
    (w : (Rect.unit off size inb).shape.Idx → Val e) (L : List (View.Piece Val s e)) (y : s.Idx) (x : (Rect.unit off size inb).shape.Idx)
    (hx : ∀ a, (y a).val = off a + (x a).val) : View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ w L x

/-- An index off the newest piece on one axis reads the rest. -/
theorem canon_miss {s : Shape} {off size : Fin s.rank → ℕ} (inb : ∀ a, off a + size a ≤ s.size a)
    (w : (Rect.unit off size inb).shape.Idx → Val e) (L : List (View.Piece Val s e)) (y : s.Idx) (a : Fin s.rank)
    (ha : (y a).val < off a ∨ off a + size a ≤ (y a).val) : View.canon (⟨Rect.unit off size inb, w⟩ :: L) y = View.canon L y := by
  refine View.canon_cons_of_not_mem _ L ?_
  intro hm
  have := (Rect.mem_set_unit (inb := inb)).1 hm a
  omega

variable {n0 n1 n2 m0 m1 m2 o0 o1 o2 : ℕ}

theorem canon_hit2 (inb : ∀ a, (![o0, o1] : Fin 2 → ℕ) a + (⟨2, ![m0, m1]⟩ : Shape).size a ≤ (⟨2, ![n0, n1]⟩ : Shape).size a)
    (w : (⟨2, ![m0, m1]⟩ : Shape).Idx → Val e) (L : List (View.Piece Val ⟨2, ![n0, n1]⟩ e)) (k : Fin m0) (r : Fin m1) (k' : Fin n0) (r' : Fin n1)
    (h0 : k'.val = o0 + k.val) (h1 : r'.val = o1 + r.val) :
    View.canon (⟨Rect.unit (s := ⟨2, ![n0, n1]⟩) ![o0, o1] (⟨2, ![m0, m1]⟩ : Shape).size inb, w⟩ :: L) (ix2 k' r') = w (ix2 k r) := by
  refine canon_hit inb w L (ix2 k' r') (ix2 k r) fun a => ?_
  match a with
  | ⟨0, _⟩ => exact h0
  | ⟨1, _⟩ => exact h1

theorem canon_miss2 (inb : ∀ a, (![o0, o1] : Fin 2 → ℕ) a + (⟨2, ![m0, m1]⟩ : Shape).size a ≤ (⟨2, ![n0, n1]⟩ : Shape).size a)
    (w : (⟨2, ![m0, m1]⟩ : Shape).Idx → Val e) (L : List (View.Piece Val ⟨2, ![n0, n1]⟩ e)) (k' : Fin n0) (r' : Fin n1)
    (h0 : k'.val < o0) :
    View.canon (⟨Rect.unit (s := ⟨2, ![n0, n1]⟩) ![o0, o1] (⟨2, ![m0, m1]⟩ : Shape).size inb, w⟩ :: L) (ix2 k' r') = View.canon L (ix2 k' r') :=
  canon_miss inb w L (ix2 k' r') (0 : Fin 2) (Or.inl h0)

theorem canon_hit3 (inb : ∀ a, (![o0, o1, o2] : Fin 3 → ℕ) a + (⟨3, ![m0, m1, m2]⟩ : Shape).size a ≤ (⟨3, ![n0, n1, n2]⟩ : Shape).size a)
    (w : (⟨3, ![m0, m1, m2]⟩ : Shape).Idx → Val e) (L : List (View.Piece Val ⟨3, ![n0, n1, n2]⟩ e)) (a : Fin m0) (b : Fin m1) (c : Fin m2)
    (a' : Fin n0) (b' : Fin n1) (c' : Fin n2) (h0 : a'.val = o0 + a.val) (h1 : b'.val = o1 + b.val) (h2 : c'.val = o2 + c.val) :
    View.canon (⟨Rect.unit (s := ⟨3, ![n0, n1, n2]⟩) ![o0, o1, o2] (⟨3, ![m0, m1, m2]⟩ : Shape).size inb, w⟩ :: L) (ix3 a' b' c') = w (ix3 a b c) := by
  refine canon_hit inb w L (ix3 a' b' c') (ix3 a b c) fun x => ?_
  match x with
  | ⟨0, _⟩ => exact h0
  | ⟨1, _⟩ => exact h1
  | ⟨2, _⟩ => exact h2

theorem canon_miss3 (inb : ∀ a, (![o0, o1, o2] : Fin 3 → ℕ) a + (⟨3, ![m0, m1, m2]⟩ : Shape).size a ≤ (⟨3, ![n0, n1, n2]⟩ : Shape).size a)
    (w : (⟨3, ![m0, m1, m2]⟩ : Shape).Idx → Val e) (L : List (View.Piece Val ⟨3, ![n0, n1, n2]⟩ e))
    (a' : Fin n0) (b' : Fin n1) (c' : Fin n2) (h : a'.val < o0 ∨ b'.val < o1) :
    View.canon (⟨Rect.unit (s := ⟨3, ![n0, n1, n2]⟩) ![o0, o1, o2] (⟨3, ![m0, m1, m2]⟩ : Shape).size inb, w⟩ :: L) (ix3 a' b' c') = View.canon L (ix3 a' b' c') := by
  rcases h with h | h
  · exact canon_miss inb w L (ix3 a' b' c') (0 : Fin 3) (Or.inl h)
  · exact canon_miss inb w L (ix3 a' b' c') (1 : Fin 3) (Or.inl h)

/-- A load through a unit-stride rectangle of a rank-2 buffer, at an index. -/
theorem ld_at2 (inb : ∀ a, (![o0, o1] : Fin 2 → ℕ) a + (⟨2, ![m0, m1]⟩ : Shape).size a ≤ (⟨2, ![n0, n1]⟩ : Shape).size a)
    (X : (⟨2, ![n0, n1]⟩ : Shape).Idx → Val e) (k : Fin m0) (r : Fin m1) (k' : Fin n0) (r' : Fin n1) (h0 : k'.val = o0 + k.val) (h1 : r'.val = o1 + r.val) :
    View.ld X (Rect.unit (s := ⟨2, ![n0, n1]⟩) ![o0, o1] (⟨2, ![m0, m1]⟩ : Shape).size inb) (ix2 k r) = X (ix2 k' r') := by
  unfold View.ld
  refine congrArg X (funext fun a => Fin.ext ?_)
  match a with
  | ⟨0, _⟩ => change o0 + 1 * k.val = k'.val; omega
  | ⟨1, _⟩ => change o1 + 1 * r.val = r'.val; omega

end Pieces

/-- A block at an index. -/
theorem blk_at {α : Type} {n0 n1 n2 m0 m1 m2 : ℕ} [NeZero n0] [NeZero n1] [NeZero n2] (X : (⟨3, ![n0, n1, n2]⟩ : Shape).Idx → α) (b r l : ℕ)
    (x0 : Fin m0) (x1 : Fin m1) (x2 : Fin m2) (y0 : Fin n0) (y1 : Fin n1) (y2 : Fin n2) (h0 : y0.val = b + x0.val) (h1 : y1.val = r + x1.val)
    (h2 : y2.val = l + x2.val) : blk X b r l (ix3 x0 x1 x2) = X (ix3 y0 y1 y2) := by
  have e0 : Fin.ofNat n0 (b + x0.val) = y0 := Fin.ext (by rw [← h0]; exact Nat.mod_eq_of_lt y0.isLt)
  have e1 : Fin.ofNat n1 (r + x1.val) = y1 := Fin.ext (by rw [← h1]; exact Nat.mod_eq_of_lt y1.isLt)
  have e2 : Fin.ofNat n2 (l + x2.val) = y2 := Fin.ext (by rw [← h2]; exact Nat.mod_eq_of_lt y2.isLt)
  unfold blk
  rw [← ix3_eq_valueIdx]
  change X (ix3 (Fin.ofNat n0 (b + x0.val)) (Fin.ofNat n1 (r + x1.val)) (Fin.ofNat n2 (l + x2.val))) = _
  rw [e0, e1, e2]

/-! ## The payloads at an index -/

theorem pay3_at (Kv : Vec Ideal S1x4112x256 .bf16) (Qv : Vec Ideal S1x256x256 .bf16) (k : Fin 4112) (r : Fin 256) :
    k0_pay3 Kv Qv (ix2 k r) = ∑ l : Fin 256, Kv (ix3 0 k l) * Qv (ix3 0 r l) := by
  pointwise [k0_pay3, k0_pay2]

theorem pay4_at (Kv : Vec Ideal S1x4112x256 .bf16) (Qv : Vec Ideal S1x256x256 .bf16) (k : Fin 8) (r : Fin 256) :
    k0_pay4 Kv Qv (ix2 k r) = Finset.fold max (⊥ : EReal)
      (fun x : Fin 4112 => (∑ l : Fin 256, (Kv (ix3 0 x l) : EReal) * (Qv (ix3 0 r l) : EReal) : EReal)) Finset.univ := by
  pointwise [k0_pay4, k0_pay2]
  simp only [Cert.Hand.bits_bot]

theorem pay76_at (Qv : Vec Ideal S1x256x256 .bf16) (K1 : Vec Ideal S1x2048x256 .bf16) (K2 : Vec Ideal S1x2064x256 .bf16) (k : Fin 8) (r : Fin 256) :
    k0_pay76 Qv K1 K2 (ix2 k r) = max (Finset.fold max (⊥ : EReal)
        (fun x : Fin 2048 => (∑ l : Fin 256, (K1 (ix3 0 x l) : EReal) * (Qv (ix3 0 r l) : EReal) : EReal)) Finset.univ)
      (Finset.fold max (⊥ : EReal) (fun x : Fin 2064 => (∑ l : Fin 256, (K2 (ix3 0 x l) : EReal) * (Qv (ix3 0 r l) : EReal) : EReal)) Finset.univ) := by
  pointwise [k0_pay76, k0_pay72, k0_pay73, k0_pay71]
  simp only [Cert.Hand.bits_bot]

theorem pay74_at (Qv : Vec Ideal S1x256x256 .bf16) (K1 : Vec Ideal S1x2048x256 .bf16) (k : Fin 2048) (r : Fin 256) :
    k0_pay74 Qv K1 (ix2 k r) = ∑ l : Fin 256, K1 (ix3 0 k l) * Qv (ix3 0 r l) := by
  pointwise [k0_pay74, k0_pay72, k0_pay71]

theorem pay75_at (Qv : Vec Ideal S1x256x256 .bf16) (K1 : Vec Ideal S1x2064x256 .bf16) (k : Fin 2064) (r : Fin 256) :
    k0_pay75 Qv K1 (ix2 k r) = ∑ l : Fin 256, K1 (ix3 0 k l) * Qv (ix3 0 r l) := by
  pointwise [k0_pay75, k0_pay73, k0_pay71]

/-- A row of weighted sums: the two halves of the keys, the zeros past the last one. -/
def rowSum (m : Vec Ideal S1x256 .f32) (s1 : Vec Ideal S2048x256 .f32) (w1 : Vec Ideal S1x144x2048 .bf16) (s2 : Vec Ideal S2064x256 .f32)
    (w2 : Vec Ideal S1x144x2176 .bf16) (r : Fin 256) (l : Fin 144) : EReal :=
  ∑ x : Fin 2048, (w1 (ix3 0 l x) : EReal) * Ideal.exp2 ((s1 (ix2 x r) : EReal) - m (ix2 0 r))
    + (∑ x : Fin 2064, (w2 (ix3 0 l ⟨x.val, by omega⟩) : EReal) * Ideal.exp2 ((s2 (ix2 x r) : EReal) - m (ix2 0 r))
      + ∑ x : Fin 112, (w2 (ix3 0 l ⟨2064 + x.val, by omega⟩) : EReal) * 0)

theorem pay98_at (m : Vec Ideal S1x256 .f32) (s1 : Vec Ideal S2048x256 .f32) (w1 : Vec Ideal S1x144x2048 .bf16) (s2 : Vec Ideal S2064x256 .f32)
   (w2 : Vec Ideal S1x144x2176 .bf16) (r : Fin 256) (l : Fin 128) :
    k0_pay9 (k0_pay8 m s1 w1 s2 w2) (ix3 0 r l) = rowSum m s1 w1 s2 w2 r ⟨l.val, by omega⟩ * Ideal.div 1 (rowSum m s1 w1 s2 w2 r ⟨128, by omega⟩) := by
  pointwise [k0_pay9, k0_pay8]
  rfl

theorem key_bit : ∀ l : Fin 4224, IntOp.cmpi CmpIPredicate.slt (BitVec.ofNat 32 l.val) 4112#32 = if l.val < 4112 then 1 else 0 := by decide +kernel

theorem pay45_at (r : Fin 16) (l : Fin 4224) :
    k0_pay45 (F := Ideal) (ix3 0 r l) = if l.val < 4112 then (1 : EReal) else 0 := by
  pointwise [k0_pay45]
  rw [key_bit]
  by_cases h : l.val < 4112
  · rw [if_pos h, if_pos h]; rfl
  · rw [if_neg h, if_neg h]; rfl

theorem pay44_at (v) (r : Fin 128) (l : Fin 4224) :
    k0_pay44 (F := Ideal) v (ix3 0 r l) = v (ix2 l r) := by
  pointwise [k0_pay44]
theorem pay43_at (v) (r : Fin 128) (l : Fin 4112) :
    k0_pay43 (F := Ideal) v (ix2 l r) = v (ix3 0 l r) := by
  pointwise [k0_pay43]

/-! ## The buffers at an index -/

section Buffers

variable (Kv : Vec Ideal S1x4112x256 .bf16) (Qv : Vec Ideal S1x256x256 .bf16) (K1 : Vec Ideal S1x2048x256 .bf16) (K2 : Vec Ideal S1x2064x256 .bf16)

theorem scBuf_at (k : Fin 4112) (r : Fin 256) (k' : Fin 4120) (hk : k'.val = k.val) :
    scBuf Kv Qv (ix2 k' r) = ∑ l : Fin 256, Kv (ix3 0 k l) * Qv (ix3 0 r l) := by
  have hk4 := k.isLt
  unfold scBuf
  refine (canon_miss2 _ _ _ k' r (by omega)).trans ?_
  exact (canon_hit2 _ _ _ k r k' r (by omega) (by omega)).trans (pay3_at Kv Qv k r)

theorem scBuf_top (r : Fin 256) : scBuf Kv Qv (ix2 ⟨4112, by omega⟩ r)
    = Finset.fold max (⊥ : EReal) (fun x : Fin 4112 => (∑ l : Fin 256, (Kv (ix3 0 x l) : EReal) * (Qv (ix3 0 r l) : EReal) : EReal)) Finset.univ := by
  unfold scBuf
  have h8 : 0 < 8 := by omega
  refine (canon_hit2 _ _ _ (⟨0, h8⟩ : Fin 8) r _ r (by dsimp only) (by omega)).trans ?_
  exact pay4_at Kv Qv ⟨0, h8⟩ r

theorem scTail_lo (k : Fin 2048) (r : Fin 256) (k' : Fin 4120) (hk : k'.val = k.val) :
    scTail Qv K1 K2 (ix2 k' r) = ∑ l : Fin 256, K1 (ix3 0 k l) * Qv (ix3 0 r l) := by
  have hk4 := k.isLt
  unfold scTail
  refine (canon_miss2 _ _ _ k' r (by omega)).trans ((canon_miss2 _ _ _ k' r (by omega)).trans ?_)
  exact (canon_hit2 _ _ _ k r k' r (by omega) (by omega)).trans (pay74_at Qv K1 k r)

theorem scTail_hi (k : Fin 2064) (r : Fin 256) (k' : Fin 4120) (hk : k'.val = 2048 + k.val) :
    scTail Qv K1 K2 (ix2 k' r) = ∑ l : Fin 256, K2 (ix3 0 k l) * Qv (ix3 0 r l) := by
  have hk4 := k.isLt
  unfold scTail
  refine (canon_miss2 _ _ _ k' r (by omega)).trans ?_
  exact (canon_hit2 _ _ _ k r k' r (by omega) (by omega)).trans (pay75_at Qv K2 k r)

theorem scTail_top (r : Fin 256) : scTail Qv K1 K2 (ix2 ⟨4112, by omega⟩ r)
    = max (Finset.fold max (⊥ : EReal)
        (fun x : Fin 2048 => (∑ l : Fin 256, (K1 (ix3 0 x l) : EReal) * (Qv (ix3 0 r l) : EReal) : EReal)) Finset.univ)
      (Finset.fold max (⊥ : EReal) (fun x : Fin 2064 => (∑ l : Fin 256, (K2 (ix3 0 x l) : EReal) * (Qv (ix3 0 r l) : EReal) : EReal)) Finset.univ) := by
  unfold scTail
  have h8 : 0 < 8 := by omega
  refine (canon_hit2 _ _ _ (⟨0, h8⟩ : Fin 8) r _ r (by dsimp only) (by omega)).trans ?_
  exact pay76_at Qv K1 K2 ⟨0, h8⟩ r

variable (V : Vec Ideal S1x4112x256 .bf16)

theorem padded_at (h : ℕ) (k : Fin 4112) (k' : Fin 4224) (hk : k'.val = k.val) (l : Fin 128) (y : Fin 256) (hy : y.val = 128 * h + l.val) :
    padded V h (ix2 k' l) = V (ix3 0 k y) := by
  unfold padded
  exact (canon_hit2 _ _ _ k l k' l (by omega) (by omega)).trans ((pay43_at _ l k).trans (blk_at V 0 0 (128 * h) 0 k l 0 k y rfl (by omega) hy))

/-- A value row of the turned values. -/
theorem turned_val (h : Fin 2) (k : Fin 4112) (k' : Fin 4224) (hk : k'.val = k.val) (l : Fin 128) (y : Fin 256) (hy : y.val = 128 * h.val + l.val)
    (l' : Fin 144) (hl : l'.val = l.val) : turned V (ix3 h l' k') = V (ix3 0 k y) := by
  have hl4 := l.isLt
  have hh := h.isLt
  unfold turned
  refine (canon_miss3 _ _ _ h l' k' (Or.inr (by omega))).trans ?_
  by_cases h1 : h.val = 1
  · exact (canon_hit3 _ _ _ (⟨0, by omega⟩ : Fin 1) l k' h l' k' h1 (by omega) (by omega)).trans ((pay44_at _ l k').trans (padded_at V 1 k k' hk l y (by omega)))
  · refine (canon_miss3 _ _ _ h l' k' (Or.inl (by omega))).trans ((canon_miss3 _ _ _ h l' k' (Or.inr (by omega))).trans ?_)
    exact (canon_hit3 _ _ _ (⟨0, by omega⟩ : Fin 1) l k' h l' k' (by dsimp only; omega) (by omega) (by omega)).trans
      ((pay44_at _ l k').trans (padded_at V 0 k k' hk l y (by omega)))

/-- The row of ones of the turned values. -/
theorem turned_one (h : Fin 2) (k' : Fin 4224) (hk : k'.val < 4112) : turned V (ix3 h ⟨128, by omega⟩ k') = (1 : EReal) := by
  have hh := h.isLt
  unfold turned
  by_cases h1 : h.val = 1
  · exact (canon_hit3 _ _ _ (⟨0, by omega⟩ : Fin 1) (⟨0, by omega⟩ : Fin 16) k' h ⟨128, by omega⟩ k' h1 rfl (by omega)).trans ((pay45_at _ k').trans (if_pos hk))
  · refine (canon_miss3 _ _ _ h ⟨128, by omega⟩ k' (Or.inl (by omega))).trans ((canon_miss3 _ _ _ h ⟨128, by omega⟩ k' (Or.inl (by omega))).trans ?_)
    exact (canon_hit3 _ _ _ (⟨0, by omega⟩ : Fin 1) (⟨0, by omega⟩ : Fin 16) k' h ⟨128, by omega⟩ k' (by dsimp only; omega) rfl (by omega)).trans ((pay45_at _ k').trans (if_pos hk))

end Buffers

/-! ## A tile's rows -/

/-- A sum over the keys in its two halves. -/
theorem sum_keys (f : Fin 4112 → EReal) : ∑ k, f k = ∑ x : Fin 2048, f ⟨x.val, by omega⟩ + ∑ x : Fin 2064, f ⟨2048 + x.val, by omega⟩ :=
  Fin.sum_univ_add (a := 2048) (b := 2064) f

/-- A tile's weighted rows: the values under the weights of the scores the buffer holds. -/
theorem weigh_at (S : S4120x256.Idx → Elt Ideal .f32) (W : S2x144x4224.Idx → Elt Ideal .bf16) (h : Fin 2) (r : Fin 256) (l : Fin 128)
    (f : Fin 4112 → ℝ) (μ : ℝ) (v : Fin 4112 → EReal)
    (hs : ∀ k : Fin 4112, S (ix2 ⟨k.val, by omega⟩ r) = ((f k / Real.log 2 : ℝ) : EReal)) (hμ : S (ix2 ⟨4112, by omega⟩ r) = (μ : EReal))
    (hv : ∀ k : Fin 4112, W (ix3 h ⟨l.val, by omega⟩ ⟨k.val, by omega⟩) = v k)
    (h1 : ∀ k : Fin 4112, W (ix3 h ⟨128, by omega⟩ ⟨k.val, by omega⟩) = (1 : EReal)) :
    weigh S W h.val (ix3 0 r l) = Cert.Hand.attn f v := by
  unfold weigh
  rw [pay98_at]
  have key : ∀ (l' : Fin 144) (u : Fin 4112 → EReal), (∀ k : Fin 4112, W (ix3 h l' ⟨k.val, by omega⟩) = u k) →
      rowSum (View.ld S (Rect.unit (s := S4120x256) ![4112, 0] S1x256.size inb_S4120x256_S1x256_4112_0))
        (View.ld S (Rect.unit (s := S4120x256) ![0, 0] S2048x256.size inb_S4120x256_S2048x256_0_0))
        (blk (m0 := 1) (m1 := 144) (m2 := 2048) W h.val 0 0)
        (View.ld S (Rect.unit (s := S4120x256) ![2048, 0] S2064x256.size inb_S4120x256_S2064x256_2048_0))
        (blk (m0 := 1) (m1 := 144) (m2 := 2176) W h.val 0 2048) r l'
      = ∑ k : Fin 4112, u k * Ideal.exp2 (S (ix2 ⟨k.val, by omega⟩ r) - (μ : EReal)) := by
    intro l' u hu
    have em : View.ld S (Rect.unit (s := S4120x256) ![4112, 0] S1x256.size inb_S4120x256_S1x256_4112_0) (ix2 0 r) = (μ : EReal) := by
      exact (ld_at2 _ S 0 r ⟨4112, by omega⟩ r rfl (by omega)).trans hμ
    unfold rowSum
    rw [em, sum_keys]
    refine congrArg₂ (· + ·) (Finset.sum_congr rfl fun x _ => ?_) ?_
    · rw [blk_at W h.val 0 0 0 l' x h l' ⟨x.val, by omega⟩ rfl (by omega) (by dsimp only; omega), hu ⟨x.val, by omega⟩]
      congr 3
      exact ld_at2 _ S x r ⟨x.val, by omega⟩ r (by dsimp only; omega) (by omega)
    · rw [Finset.sum_eq_zero (s := (Finset.univ : Finset (Fin 112))) fun x _ => mul_zero _, add_zero]
      refine Finset.sum_congr rfl fun x _ => ?_
      rw [blk_at (m0 := 1) (m1 := 144) (m2 := 2176) W h.val 0 2048 0 l' ⟨x.val, by omega⟩ h l' ⟨2048 + x.val, by omega⟩ (by rfl) (by omega) (by rfl), hu ⟨2048 + x.val, by omega⟩]
      congr 3
      exact ld_at2 _ S x r ⟨2048 + x.val, by omega⟩ r rfl (by omega)
  rw [key ⟨l.val, by omega⟩ v hv, key ⟨128, by omega⟩ (fun _ => 1) h1]
  exact Cert.Hand.attn_ker (by omega) f μ _ hs v

/-- The output block at an index. -/
theorem out_at (Q K : S1x4112x512.Idx → Elt Ideal .bf16) (V : S1x4112x256.Idx → Elt Ideal .bf16) (n : Fin 4112) (y : Fin 256) (h : Fin 2) (l : Fin 128)
    (hy : y.val = 128 * h.val + l.val) (f : Fin 4112 → ℝ)
    (hf : ∀ k : Fin 4112, ∑ d : Fin 256, K (ix3 0 k ⟨256 * h.val + d.val, by omega⟩) * Q (ix3 0 n ⟨256 * h.val + d.val, by omega⟩) = ((f k / Real.log 2 : ℝ) : EReal)) :
    out Q K (turned V) (ix3 0 n y) = Cert.Hand.attn f fun k => V (ix3 0 k y) := by
  have hn := n.isLt
  have hl := l.isLt
  have ey : y.val / 128 = h.val := by omega
  have el : Fin.ofNat 128 y.val = l := Fin.ext (show y.val % 128 = l.val by omega)
  have hV : ∀ k : Fin 4112, turned V (ix3 h ⟨l.val, by omega⟩ ⟨k.val, by omega⟩) = V (ix3 0 k y) := fun k =>
    turned_val V h k ⟨k.val, by omega⟩ rfl l y hy ⟨l.val, by omega⟩ rfl
  have h1 : ∀ k : Fin 4112, turned V (ix3 h ⟨128, by omega⟩ ⟨k.val, by omega⟩) = (1 : EReal) := fun k => turned_one V h _ k.isLt
  unfold out
  rw [← ix3_eq_valueIdx, ← ix3_eq_valueIdx]
  change (if n.val < 3856 then
      weigh (scRows Q K (y.val / 128) (256 * (n.val / 256))) (turned V) (y.val / 128) (ix3 0 (Fin.ofNat 256 n.val) (Fin.ofNat 128 y.val))
    else weigh (scLast Q K (y.val / 128)) (turned V) (y.val / 128) (ix3 0 (Fin.ofNat 256 (n.val - 3856)) (Fin.ofNat 128 y.val))) = _
  rw [ey, el]
  split
  · rename_i hlt
    have hr : (Fin.ofNat 256 n.val).val = n.val % 256 := rfl
    generalize Fin.ofNat 256 n.val = r at hr
    have hsum : ∀ k : Fin 4112, ∑ d : Fin 256, blk (m0 := 1) (m1 := 4112) (m2 := 256) K 0 0 (256 * h.val) (ix3 0 k d)
        * blk (m0 := 1) (m1 := 256) (m2 := 256) Q 0 (256 * (n.val / 256)) (256 * h.val) (ix3 0 r d) = ((f k / Real.log 2 : ℝ) : EReal) := fun k => by
      rw [← hf k]
      refine Finset.sum_congr rfl fun d _ => ?_
      rw [blk_at K 0 0 (256 * h.val) 0 k d 0 k ⟨256 * h.val + d.val, by omega⟩ rfl (by omega) rfl,
        blk_at Q 0 (256 * (n.val / 256)) (256 * h.val) 0 r d 0 n ⟨256 * h.val + d.val, by omega⟩ rfl (by omega) rfl]
    obtain ⟨μ, hμ⟩ := Cert.Hand.fold_max_real (n := 4112) (by omega) _ fun k => ⟨_, hsum k⟩
    refine weigh_at _ _ h r l f μ _ (fun k => (scBuf_at _ _ k r _ rfl).trans (hsum k)) ?_ hV h1
    exact (scBuf_top _ _ r).trans (by exact hμ)
  · rename_i hlt
    have hr : (Fin.ofNat 256 (n.val - 3856)).val = (n.val - 3856) % 256 := rfl
    generalize Fin.ofNat 256 (n.val - 3856) = r at hr
    have hlo : ∀ k : Fin 2048, ∑ d : Fin 256, blk (m0 := 1) (m1 := 2048) (m2 := 256) K 0 0 (256 * h.val) (ix3 0 k d)
        * blk (m0 := 1) (m1 := 256) (m2 := 256) Q 0 3856 (256 * h.val) (ix3 0 r d) = ((f ⟨k.val, by omega⟩ / Real.log 2 : ℝ) : EReal) := fun k => by
      rw [← hf ⟨k.val, by omega⟩]
      refine Finset.sum_congr rfl fun d _ => ?_
      rw [blk_at K 0 0 (256 * h.val) 0 k d 0 ⟨k.val, by omega⟩ ⟨256 * h.val + d.val, by omega⟩ rfl (by dsimp only; omega) rfl,
        blk_at Q 0 3856 (256 * h.val) 0 r d 0 n ⟨256 * h.val + d.val, by omega⟩ rfl (by omega) rfl]
    have hhi : ∀ k : Fin 2064, ∑ d : Fin 256, blk (m0 := 1) (m1 := 2064) (m2 := 256) K 0 2048 (256 * h.val) (ix3 0 k d)
        * blk (m0 := 1) (m1 := 256) (m2 := 256) Q 0 3856 (256 * h.val) (ix3 0 r d) = ((f ⟨2048 + k.val, by omega⟩ / Real.log 2 : ℝ) : EReal) := fun k => by
      rw [← hf ⟨2048 + k.val, by omega⟩]
      refine Finset.sum_congr rfl fun d _ => ?_
      rw [blk_at K 0 2048 (256 * h.val) 0 k d 0 ⟨2048 + k.val, by omega⟩ ⟨256 * h.val + d.val, by omega⟩ rfl rfl rfl,
        blk_at Q 0 3856 (256 * h.val) 0 r d 0 n ⟨256 * h.val + d.val, by omega⟩ rfl (by omega) rfl]
    obtain ⟨μ1, hμ1⟩ := Cert.Hand.fold_max_real (n := 2048) (by omega) _ fun k => ⟨_, hlo k⟩
    obtain ⟨μ2, hμ2⟩ := Cert.Hand.fold_max_real (n := 2064) (by omega) _ fun k => ⟨_, hhi k⟩
    refine weigh_at _ _ h r l f (max μ1 μ2) _ (fun k => ?_) ?_ hV h1
    · by_cases hk : k.val < 2048
      · exact (scTail_lo _ _ _ ⟨k.val, hk⟩ r _ rfl).trans (hlo ⟨k.val, hk⟩)
      · have hk' := k.isLt
        refine (scTail_hi _ _ _ ⟨k.val - 2048, by omega⟩ r _ (by dsimp only; omega)).trans ((hhi ⟨k.val - 2048, by omega⟩).trans ?_)
        exact congrArg (fun j : Fin 4112 => ((f j / Real.log 2 : ℝ) : EReal)) (Fin.ext (by dsimp only; omega))
    · refine (scTail_top _ _ _ r).trans ?_
      refine (congrArg₂ max hμ1 hμ2).trans ?_
      exact (EReal.coe_strictMono.monotone.map_max).symm

end Cert.KernelIdeal.Hand
end
-- ==== Proof.KernelValue.lean ====
/-
  The kernel's result: the output array after the run, index by index, and the host line after the region.
-/
module

public import proofs.«01_k».proof.Proof.Run
public import proofs.«01_k».proof.Proof.HostValue
public import proofs.«01_k».proof.Proof.BlockValue
public import Idealize.ShloMosaic.Lib.Pipeline.ValueKit

@[expose] public section

set_option maxRecDepth 16384
noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window BodyObligation)

variable (m : (ℓ : Loc nD τ sig) → Buf (Elt Ideal) ℓ)

/-- Which block each window stages at a grid point. -/
theorem idx_of : ∀ t : Fin cfg0.N, (cfg0.win 3).index t = ![t.val / 2, 0, t.val % 2] ∧ (cfg0.win 0).index t = ![t.val / 2, 0, t.val % 2]
    ∧ (cfg0.win 1).index t = ![t.val / 2, 0, t.val % 2] ∧ (cfg0.win 2).index t = ![t.val / 2, 0, t.val % 2] := by decide +kernel

/-- Indices of rank 3 with the same coordinates. -/
theorem idx3_same {n0 n1 n2 : ℕ} {i : (⟨3, ![n0, n1, n2]⟩ : Shape).Idx} {a : Fin n0} {b : Fin n1} {c : Fin n2} (ha : (i 0).val = a.val) (hb : (i 1).val = b.val)
    (hc : (i 2).val = c.val) : i = ix3 a b c := by
  funext x
  apply Fin.ext
  match x with
  | ⟨0, _⟩ => exact ha
  | ⟨1, _⟩ => exact hb
  | ⟨2, _⟩ => exact hc

/-- Where an element of a grid point's block of 512 lanes lies in the packed arrays, and of a block of 256 in the values and the result. -/
theorem emb0 (t : Fin cfg0.N) (y : S1x4112x512.Idx) (b : Fin 16) (hb : b.val = t.val / 2) (l' : Fin 1024) (hl : l'.val = 512 * (t.val % 2) + (y 2).val) :
    (win0_0.blk t).view.emb y = ix3 b (y 1) l' := by
  refine idx3_same ?_ ?_ ?_
  · blk_simp [(idx_of t).2.1]
    exact hb.symm
  · blk_simp [(idx_of t).2.1]
  · blk_simp [(idx_of t).2.1]
    omega

theorem emb1 (t : Fin cfg0.N) (y : S1x4112x512.Idx) (b : Fin 16) (hb : b.val = t.val / 2) (l' : Fin 1024) (hl : l'.val = 512 * (t.val % 2) + (y 2).val) :
    (win0_1.blk t).view.emb y = ix3 b (y 1) l' := by
  refine idx3_same ?_ ?_ ?_
  · blk_simp [(idx_of t).2.2.1]
    exact hb.symm
  · blk_simp [(idx_of t).2.2.1]
  · blk_simp [(idx_of t).2.2.1]
    omega

theorem emb2 (t : Fin cfg0.N) (y : S1x4112x256.Idx) (b : Fin 16) (hb : b.val = t.val / 2) (l' : Fin 512) (hl : l'.val = 256 * (t.val % 2) + (y 2).val) :
    (win0_2.blk t).view.emb y = ix3 b (y 1) l' := by
  refine idx3_same ?_ ?_ ?_
  · blk_simp [(idx_of t).2.2.2]
    exact hb.symm
  · blk_simp [(idx_of t).2.2.2]
  · blk_simp [(idx_of t).2.2.2]
    omega

theorem emb3 (t : Fin cfg0.N) (y : S1x4112x256.Idx) (b : Fin 16) (hb : b.val = t.val / 2) (l' : Fin 512) (hl : l'.val = 256 * (t.val % 2) + (y 2).val) :
    (win0_3.blk t).view.emb y = ix3 b (y 1) l' := by
  refine idx3_same ?_ ?_ ?_
  · blk_simp [(idx_of t).1]
    exact hb.symm
  · blk_simp [(idx_of t).1]
  · blk_simp [(idx_of t).1]
    omega

/-- The cast at an index. -/
theorem truncf_at {s : Shape} (x : FVec Ideal s .f32) (i : s.Idx) : truncf .bf16 x bitsLt_bf16_f32 i = x i := rfl

variable (c : Dev nD) (t : Fin cfg0.N)

/-- An element of a grid point's query, key or value block, from the packed array. -/
theorem blk0_at (y : S1x4112x512.Idx) (X : S16x4112x1024.Idx → Elt Ideal .bf16) (hX : V m c main_v28 = X) (b : Fin 16) (hb : b.val = t.val / 2)
    (l' : Fin 1024) (hl : l'.val = 512 * (t.val % 2) + (y 2).val) : iblk m c 0 t y = X (ix3 b (y 1) l') := by
  unfold iblk
  have h : V m c (Pipeline.arrRef spec0 0) = X := hX
  rw [h]
  exact congrArg X (emb0 t y b hb l' hl)

theorem blk1_at (y : S1x4112x512.Idx) (X : S16x4112x1024.Idx → Elt Ideal .bf16) (hX : V m c main_v29 = X) (b : Fin 16) (hb : b.val = t.val / 2)
    (l' : Fin 1024) (hl : l'.val = 512 * (t.val % 2) + (y 2).val) : iblk m c 1 t y = X (ix3 b (y 1) l') := by
  unfold iblk
  have h : V m c (Pipeline.arrRef spec0 1) = X := hX
  rw [h]
  exact congrArg X (emb1 t y b hb l' hl)

theorem blk2_at (y : S1x4112x256.Idx) (X : S16x4112x512.Idx → Elt Ideal .bf16) (hX : V m c main_v30 = X) (b : Fin 16) (hb : b.val = t.val / 2)
    (l' : Fin 512) (hl : l'.val = 256 * (t.val % 2) + (y 2).val) : iblk m c 2 t y = X (ix3 b (y 1) l') := by
  unfold iblk
  have h : V m c (Pipeline.arrRef spec0 2) = X := hX
  rw [h]
  exact congrArg X (emb2 t y b hb l' hl)

/-- The three operands, the casts gone. -/
theorem V_q' : V m c main_v28 = (packQ (F := Ideal) (scaled (m ((c.tc : Thread nD τ).loc main_arg0))) : S16x4112x1024.Idx → EReal) := by
  rw [V_q]
  exact funext fun i => truncf_at _ i
theorem V_k' : V m c main_v29 = (packK (F := Ideal) (m ((c.tc : Thread nD τ).loc main_arg1)) : S16x4112x1024.Idx → EReal) := by
  rw [V_k]
  exact funext fun i => truncf_at _ i
theorem V_v' : V m c main_v30 = (shapeCast S16x4112x512 (m ((c.tc : Thread nD τ).loc main_arg2)) shapeCasts_S16x4112x4x128_S16x4112x512 : S16x4112x512.Idx → EReal) := by
  rw [V_v]
  exact funext fun i => truncf_at _ i

/-- The attention of real queries and keys: at batch, position and lane, the values of the lane's head under the weights of its scores. -/
def heads (qr kr : S16x4112x4x192.Idx → ℝ) (v : S16x4112x4x128.Idx → EReal) (i : S16x4112x512.Idx) : EReal :=
  Cert.Hand.attn (fun k : Fin 4112 => (∑ d : Fin 192, qr (ix4 (i 0) (i 1) ⟨(i 2).val / 128, (Nat.div_lt_iff_lt_mul (by omega)).2 (i 2).isLt⟩ d)
      * kr (ix4 (i 0) k ⟨(i 2).val / 128, (Nat.div_lt_iff_lt_mul (by omega)).2 (i 2).isLt⟩ d)) / Real.sqrt 192)
    fun k => v (ix4 (i 0) k ⟨(i 2).val / 128, (Nat.div_lt_iff_lt_mul (by omega)).2 (i 2).isLt⟩ ⟨(i 2).val % 128, Nat.mod_lt _ (by omega)⟩)

theorem heads_at (qr kr : S16x4112x4x192.Idx → ℝ) (v : S16x4112x4x128.Idx → EReal) (b : Fin 16) (n : Fin 4112) (y : Fin 512) (h : Fin 4) (l : Fin 128)
    (hy : y.val = 128 * h.val + l.val) : heads qr kr v (ix3 b n y)
      = Cert.Hand.attn (fun k : Fin 4112 => (∑ d : Fin 192, qr (ix4 b n h d) * kr (ix4 b k h d)) / Real.sqrt 192) fun k => v (ix4 b k h l) := by
  have hl := l.isLt
  have eh : ∀ p, (⟨y.val / 128, p⟩ : Fin 4) = h := fun p => Fin.ext (by dsimp only; omega)
  have el : ∀ p, (⟨y.val % 128, p⟩ : Fin 128) = l := fun p => Fin.ext (by dsimp only; omega)
  have h4 : y.val / 128 < 4 := by omega
  have h5 : y.val % 128 < 128 := by omega
  change Cert.Hand.attn (fun k : Fin 4112 => (∑ d : Fin 192, qr (ix4 b n ⟨y.val / 128, h4⟩ d) * kr (ix4 b k ⟨y.val / 128, h4⟩ d)) / Real.sqrt 192)
    (fun k => v (ix4 b k ⟨y.val / 128, h4⟩ ⟨y.val % 128, h5⟩)) = _
  rw [eh, el]

/-- A grid point's output block at an index, from what its query, key and value blocks hold. -/
theorem out_heads (Q K : S1x4112x512.Idx → Elt Ideal .bf16) (W : S1x4112x256.Idx → Elt Ideal .bf16) (q k : FVec Ideal S16x4112x4x192 .f32)
    (v : FVec Ideal S16x4112x4x128 .f32) (qr kr : S16x4112x4x192.Idx → ℝ) (hq : ∀ i, q i = (qr i : EReal)) (hk : ∀ i, k i = (kr i : EReal))
    (j : ℕ) (hj : j < 2) (b : Fin 16)
    (hQ : ∀ (n : Fin 4112) (l : Fin 512) (l' : Fin 1024), l'.val = 512 * j + l.val → Q (ix3 0 n l) = packQ (scaled q) (ix3 b n l'))
    (hK : ∀ (n : Fin 4112) (l : Fin 512) (l' : Fin 1024), l'.val = 512 * j + l.val → K (ix3 0 n l) = packK k (ix3 b n l'))
    (hW : ∀ (n : Fin 4112) (l : Fin 256) (l' : Fin 512), l'.val = 256 * j + l.val
      → W (ix3 0 n l) = shapeCast S16x4112x512 v shapeCasts_S16x4112x4x128_S16x4112x512 (ix3 b n l'))
    (n : Fin 4112) (y : Fin 256) (y' : Fin 512) (hy' : y'.val = 256 * j + y.val) :
    out Q K (turned W) (ix3 0 n y) = heads qr kr v (ix3 b n y') := by
  have hy := y.isLt
  have hh : y.val / 128 < 2 := by omega
  have hg : 2 * j + y.val / 128 < 4 := by omega
  have hl : y.val % 128 < 128 := by omega
  have sc := fun k' : Fin 4112 => packed_score q k qr kr hq hk b n k' ⟨2 * j + y.val / 128, hg⟩
      (fun d => ⟨512 * j + (256 * (y.val / 128) + d.val), by omega⟩) fun d => by dsimp only; omega
  refine (out_at Q K W n y ⟨y.val / 128, hh⟩ ⟨y.val % 128, hl⟩ (by dsimp only; omega) _ fun k' => Eq.trans ?_ (sc k')).trans ?_
  · refine Finset.sum_congr rfl fun d _ => ?_
    rw [hQ n _ ⟨512 * j + (256 * (y.val / 128) + d.val), by omega⟩ rfl, hK k' _ ⟨512 * j + (256 * (y.val / 128) + d.val), by omega⟩ rfl]
  · rw [heads_at qr kr v b n y' ⟨2 * j + y.val / 128, hg⟩ ⟨y.val % 128, hl⟩ (by dsimp only; omega)]
    congr 1
    funext k'
    rw [hW k' y y' hy']
    exact packV_at v b k' y' ⟨2 * j + y.val / 128, hg⟩ ⟨y.val % 128, hl⟩ (by dsimp only; omega)

/-- What a grid point leaves in its output block, at an index. -/
theorem block_at (qr kr : S16x4112x4x192.Idx → ℝ) (hq : ∀ i, (m ((c.tc : Thread nD τ).loc main_arg0) : S16x4112x4x192.Idx → EReal) i = (qr i : EReal))
    (hk : ∀ i, (m ((c.tc : Thread nD τ).loc main_arg1) : S16x4112x4x192.Idx → EReal) i = (kr i : EReal)) (b : Fin 16) (hb : b.val = t.val / 2)
    (n : Fin 4112) (y : Fin 256) (y' : Fin 512) (hy' : y'.val = 256 * (t.val % 2) + y.val) :
    blockOut m c t (ix3 0 n y) = heads qr kr (m ((c.tc : Thread nD τ).loc main_arg2)) (ix3 b n y') := by
  unfold blockOut
  exact out_heads (iblk m c 0 t) (iblk m c 1 t) (iblk m c 2 t) _ _ _ qr kr hq hk (t.val % 2) (by omega) b
    (fun n l l' hl => blk0_at m c t (ix3 0 n l) _ (V_q' m c) b hb l' hl) (fun n l l' hl => blk1_at m c t (ix3 0 n l) _ (V_k' m c) b hb l' hl)
    (fun n l l' hl => blk2_at m c t (ix3 0 n l) _ (V_v' m c) b hb l' hl) n y y' hy'

/-- The output array after the run. -/
theorem arr_out (qr kr : S16x4112x4x192.Idx → ℝ) (hq : ∀ i, (m ((c.tc : Thread nD τ).loc main_arg0) : S16x4112x4x192.Idx → EReal) i = (qr i : EReal))
    (hk : ∀ i, (m ((c.tc : Thread nD τ).loc main_arg1) : S16x4112x4x192.Idx → EReal) i = (kr i : EReal)) :
    (dats m 0 c).arrAt 3 (cfgs 0).N = (heads qr kr (m ((c.tc : Thread nD τ).loc main_arg2)) : S16x4112x512.Idx → EReal) := by
  refine (dats m 0 c).arrAt_eq_of_covers 3 _ (by decide +kernel) fun t hf y => ?_
  have ht : t.val < 32 := t.isLt
  blk_simp
  rw [left3, emb3 t y ⟨t.val / 2, by omega⟩ rfl ⟨256 * (t.val % 2) + (y 2).val, by have : (y 2).val < 256 := (y 2).isLt; omega⟩ rfl]
  have ey : y = ix3 0 (y 1) (y 2) := idx3_same (by have : (y 0).val < 1 := (y 0).isLt; change (y 0).val = 0; omega) rfl rfl
  refine (congrArg (blockOut m c t) ey).trans ?_
  exact block_at m c t qr kr hq hk ⟨t.val / 2, by omega⟩ rfl (y 1) (y 2) _ rfl

/-- The result after the line behind the region: the output array, the cast gone. -/
theorem result_tail (A : FVec Ideal S16x4112x512 .bf16) (hA : (dats m 0 c).arrAt 3 (cfgs 0).N = A) :
    Pipeline.afterTail₀ cfgs (dats m) 0 (V0 m) [hostOps1] c main_v32 = (extf .f32 A bitsLt_bf16_f32 : FVec Ideal S16x4112x512 .f32) := by
  unfold Pipeline.afterTail₀
  have h := (Pipeline.withArrays_arr (cfgs 0).spec launch0.win.arr_inj c (V0 m c) (fun w => (dats m 0 c).arrAt w (cfgs 0).N) 3).trans hA
  generalize Pipeline.withArrays (cfgs 0).spec c (V0 m c) (fun w => (dats m 0 c).arrAt w (cfgs 0).N) = X at h ⊢
  show StableHlo.after hostOps1 X (Proc.devRef .tc main_v32) = _
  after_results
  exact congrArg (fun z : FVec Ideal S16x4112x512 .bf16 => (extf .f32 z bitsLt_bf16_f32 : FVec Ideal S16x4112x512 .f32)) h

/-- The kernel's run, from real queries and keys: the result is the attention, the arguments as they were. -/
theorem run_value (ρ : Dev nD → PrngReg) (qr kr : Dev nD → S16x4112x4x192.Idx → ℝ)
    (hq : ∀ c i, (m ((c.tc : Thread nD τ).loc main_arg0) : S16x4112x4x192.Idx → EReal) i = (qr c i : EReal))
    (hk : ∀ c i, (m ((c.tc : Thread nD τ).loc main_arg1) : S16x4112x4x192.Idx → EReal) i = (kr c i : EReal)) :
    θ_run defs (onTc (τ := τ) (main (F := Ideal))) ⟨m, fun _ => 0, ρ⟩ (fun r => ∀ c : Dev nD,
      r.2.mem ((c.tc : Thread nD τ).loc main_v32) = (heads (qr c) (kr c) (m ((c.tc : Thread nD τ).loc main_arg2)) : S16x4112x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, h.2.1 c⟩) (θ_run_and (whole_run m ρ) (args_kept m ρ))
  refine ((h.1.1 c).2 main_v32 (Pipeline.mem_restRefs_of main_v32 (by decide) (by decide))).trans ?_
  exact result_tail m c _ (arr_out m c (qr c) (kr c) (hq c) (hk c))

end Cert.KernelIdeal.Hand
end
-- ==== Proof.RefMax.lean ====
/-
  The reference's maximum over the keys, at an index.
-/
module

public import proofs.«01_k».proof.Proof.RefRun
public import proofs.«01_k».proof.Proof.Math
public import Idealize.ShloMosaic.Lib.Pointwise
public import Idealize.ShloMosaic.Lib.Pointwise.IndexBridge

@[expose] public section

set_option maxRecDepth 16384
noncomputable section

namespace Cert.ReferenceIdeal.Hand

open Cert.ReferenceIdeal Cert.ReferenceIdeal.Gen Cert.ReferenceIdeal.Read
open Idealize.ShloMosaic

/-- The maximum over the last axis, at an index. -/
theorem fold_ix (y : FVec Ideal S16x4x4112x4112 .f32) (c0 : FVec Ideal S_ .f32) (a : Fin 16) (b : Fin 4) (c : Fin 4112) :
    Host.reduce FloatOps.maximumf y c0 reducesTo_S16x4x4112x4112_S16x4x4112_d3 h_S_ (ix3 a b c)
      = Finset.fold max (c0 (Shape.Idx.first h_S_) : EReal) (fun k : Fin 4112 => (y (ix4 a b c k) : EReal)) Finset.univ := by
  pointwise

theorem fold_at (y : FVec Ideal S16x4x4112x4112 .f32) (c0 : FVec Ideal S_ .f32) (a : Fin 16) (b : Fin 4) (c : Fin 4112) :
    Host.reduce FloatOps.maximumf y c0 reducesTo_S16x4x4112x4112_S16x4x4112_d3 h_S_ (ValueIdx.ix3 a b c)
      = Finset.fold max (c0 (Shape.Idx.first h_S_) : EReal) (fun k : Fin 4112 => (y (ValueIdx.ix4 a b c k) : EReal)) Finset.univ := by
  simp only [← ix3_eq_valueIdx, ← ix4_eq_valueIdx]
  exact fold_ix y c0 a b c

end Cert.ReferenceIdeal.Hand
end
-- ==== Proof.RefValue.lean ====
/-
  The reference's result at an index: the values under the softmax of the scaled scores.
-/
module

public import proofs.«01_k».proof.Proof.RefRun
public import proofs.«01_k».proof.Proof.Math
public import Idealize.ShloMosaic.Lib.ValueIdx
public import proofs.«01_k».proof.Proof.RefMax

@[expose] public section

noncomputable section

namespace Cert.ReferenceIdeal.Hand

open Cert.ReferenceIdeal Cert.ReferenceIdeal.Gen Cert.ReferenceIdeal.Read
open Idealize.ShloMosaic hiding ix0 ix1 ix2 ix3 ix4 ix5
open Idealize.ShloMosaic.ValueIdx

/-- Indices of rank 4 with the same coordinates. -/
theorem idx4_ext {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j := by
  funext a
  apply Fin.ext
  match a with
  | ⟨0, _⟩ => exact h0
  | ⟨1, _⟩ => exact h1
  | ⟨2, _⟩ => exact h2
  | ⟨3, _⟩ => exact h3

/-- The reference's score of a query and a key. -/
def score (x0 x1 : (⟨S16x4112x4x192, .f32⟩ : BufTy).Contents (Elt Ideal)) (b : Fin 16) (h : Fin 4) (n k : Fin 4112) : EReal :=
  (∑ d : Fin 192, x0 (ix4 b n h d) * x1 (ix4 b k h d)) * Ideal.div 1 (Ideal.sqrt (Ideal.ofBits .f32 0x43400000#32))

variable (x0 x1 : (⟨S16x4112x4x192, .f32⟩ : BufTy).Contents (Elt Ideal)) (x2 : (⟨S16x4112x4x128, .f32⟩ : BufTy).Contents (Elt Ideal))
variable (b : Fin 16) (h : Fin 4) (n k : Fin 4112)

theorem v4_at : val_main_v4 (F := Ideal) x0 x1 (ix4 b h n k) = score x0 x1 b h n k := by
  rw [val_main_v4_apply, val_main_v2_apply, val_main_v3_apply, val_main_v1_apply, val_main_v0_apply, val_main_cst_apply, val_main_cst_0_apply]
  have e : ∀ d : Fin 192, x0 (lidx_main_v2 (ix4 b h n k) d) * x1 (ridx_main_v2 (ix4 b h n k) d) = x0 (ix4 b n h d) * x1 (ix4 b k h d) := fun d => by
    rw [show lidx_main_v2 (ix4 b h n k) d = ix4 b n h d from idx4_ext rfl rfl rfl rfl, show ridx_main_v2 (ix4 b h n k) d = ix4 b k h d from idx4_ext rfl rfl rfl rfl]
  rw [Finset.sum_congr rfl fun d _ => e d]
  change _ * Ideal.div (Ideal.ofBits .f32 0x3F800000#32) (Ideal.sqrt (Ideal.ofBits .f32 0x43400000#32)) = _
  rw [Ideal.ofBits_one_f32]
  rfl

theorem v11_at {μ : EReal} (hμ : val_main_v7 (F := Ideal) x0 x1 (ix3 b h n) = μ) :
    val_main_v11 (F := Ideal) x0 x1 (ix4 b h n k) = Ideal.exp (score x0 x1 b h n k - μ) := by
  rw [val_main_v11_apply, val_main_v10_apply, v4_at, val_main_v9_apply, val_main_v8_apply,
    show idx_main_v8 (idx_main_v9 (ix4 b h n k)) = ix3 b h n from by
      funext a
      match a with
      | ⟨0, _⟩ => rfl
      | ⟨1, _⟩ => rfl
      | ⟨2, _⟩ => rfl, hμ]
  rfl

theorem v15_at {μ : EReal} (hμ : val_main_v7 (F := Ideal) x0 x1 (ix3 b h n) = μ) :
    val_main_v15 (F := Ideal) x0 x1 (ix4 b h n k)
      = Ideal.div (Ideal.exp (score x0 x1 b h n k - μ)) (0 + ∑ j : Fin 4112, Ideal.exp (score x0 x1 b h n j - μ)) := by
  rw [val_main_v15_apply, v11_at x0 x1 b h n k hμ, val_main_v14_apply, val_main_v13_apply, val_main_v12_apply, val_main_cst_3_apply]
  have e : ∀ j : Fin 4112, val_main_v11 (F := Ideal) x0 x1 (idx_main_v12 (idx_main_v13 (idx_main_v14 (ix4 b h n k))) j) = Ideal.exp (score x0 x1 b h n j - μ) := fun j => by
    rw [show idx_main_v12 (idx_main_v13 (idx_main_v14 (ix4 b h n k))) j = ix4 b h n j from idx4_ext rfl rfl rfl rfl]
    exact v11_at x0 x1 b h n j hμ
  rw [Finset.sum_congr rfl fun d _ => e d]
  change Ideal.div _ (Ideal.ofBits .f32 0x00000000#32 + _) = _
  rw [Ideal.ofBits_zero_f32]

theorem v18_at {μ : EReal} (hμ : val_main_v7 (F := Ideal) x0 x1 (ix3 b h n) = μ) (l : Fin 128) (y : Fin 512) (hy : y.val = 128 * h.val + l.val) :
    val_main_v18 (F := Ideal) x0 x1 x2 (ix3 b n y)
      = ∑ k : Fin 4112, x2 (ix4 b k h l) * Ideal.div (Ideal.exp (score x0 x1 b h n k - μ)) (0 + ∑ j : Fin 4112, Ideal.exp (score x0 x1 b h n j - μ)) := by
  have hb := b.isLt; have hn := n.isLt; have hh := h.isLt; have hl := l.isLt
  have hi : idx_main_v18 (ix3 b n y) = ix4 b n h l := idx4_ext
    (by change ((b.val * 4112 + n.val) * 512 + y.val) / 2105344 = b.val; omega)
    (by change ((b.val * 4112 + n.val) * 512 + y.val) / 512 % 4112 = n.val; omega)
    (by change ((b.val * 4112 + n.val) * 512 + y.val) / 128 % 4 = h.val; omega)
    (by change ((b.val * 4112 + n.val) * 512 + y.val) % 128 = l.val; omega)
  rw [val_main_v18_apply, hi, val_main_v17_apply, val_main_v16_apply]
  refine Finset.sum_congr rfl fun k _ => ?_
  rw [show lidx_main_v16 (idx_main_v17 (ix4 b n h l)) k = ix4 b k h l from idx4_ext rfl rfl rfl rfl,
    show ridx_main_v16 (idx_main_v17 (ix4 b n h l)) k = ix4 b h n k from idx4_ext rfl rfl rfl rfl, v15_at x0 x1 b h n k hμ]

/-- The score of a query and a key of real entries is a real. -/
theorem score_real (qr kr : S16x4112x4x192.Idx → ℝ) (hq : ∀ i, x0 i = (qr i : EReal)) (hk : ∀ i, x1 i = (kr i : EReal)) :
    score x0 x1 b h n k = (((∑ d : Fin 192, qr (ix4 b n h d) * kr (ix4 b k h d)) / Real.sqrt 192 : ℝ) : EReal) := by
  have hs : Real.sqrt 192 ≠ 0 := (Real.sqrt_pos.2 (by norm_num)).ne'
  unfold score
  rw [Cert.Hand.bits_192, Ideal.sqrt_coe, if_neg (by norm_num), ← EReal.coe_one, Cert.Hand.div_real _ _ hs,
    Finset.sum_congr rfl fun d _ => (show x0 (ix4 b n h d) * x1 (ix4 b k h d) = ((qr (ix4 b n h d) * kr (ix4 b k h d) : ℝ) : EReal) by
      rw [hq, hk]; exact (EReal.coe_mul _ _).symm), ← Cert.Hand.coe_sum, ← EReal.coe_mul, mul_one_div]

/-- A row's maximum is a real. -/
theorem v7_real (qr kr : S16x4112x4x192.Idx → ℝ) (hq : ∀ i, x0 i = (qr i : EReal)) (hk : ∀ i, x1 i = (kr i : EReal)) :
    ∃ μ : ℝ, val_main_v7 (F := Ideal) x0 x1 (ix3 b h n) = (μ : EReal) := by
  obtain ⟨μ, hμ⟩ := Cert.Hand.fold_max_real (n := 4112) (by omega) (fun k => score x0 x1 b h n k) fun k => ⟨_, score_real x0 x1 b h n k qr kr hq hk⟩
  refine ⟨μ, ?_⟩
  have e5 : val_main_v5 (F := Ideal) x0 x1 (ix3 b h n) = (μ : EReal) := by
    unfold val_main_v5
    rw [fold_at]
    rw [val_main_cst_1_apply]
    change Finset.fold max (Ideal.ofBits .f32 0xFF800000#32) _ _ = _
    rw [Cert.Hand.bits_bot, ← hμ]
    congr 1
    funext k
    rw [← v4_at]
  rw [val_main_v7_apply, val_main_v6_apply, val_main_cst_2_apply, e5]
  change max (Ideal.ofBits .f32 0xFF800000#32) _ = _
  rw [Cert.Hand.bits_bot]
  exact max_eq_right bot_le

/-- The reference's result at an index, for real queries and keys. -/
theorem ref_at (qr kr : S16x4112x4x192.Idx → ℝ) (hq : ∀ i, x0 i = (qr i : EReal)) (hk : ∀ i, x1 i = (kr i : EReal)) (l : Fin 128) (y : Fin 512)
    (hy : y.val = 128 * h.val + l.val) :
    val_main_v18 (F := Ideal) x0 x1 x2 (ix3 b n y)
      = Cert.Hand.attn (fun k : Fin 4112 => (∑ d : Fin 192, qr (ix4 b n h d) * kr (ix4 b k h d)) / Real.sqrt 192) fun k => x2 (ix4 b k h l) := by
  obtain ⟨μ, hμ⟩ := v7_real x0 x1 b h n qr kr hq hk
  rw [v18_at x0 x1 x2 b h n hμ l y hy]
  simp only [score_real x0 x1 b h n _ qr kr hq hk]
  exact Cert.Hand.attn_ref (by omega) _ μ _

end Cert.ReferenceIdeal.Hand
end
-- ==== Proof.Finite.lean ====
/-
  What the precondition says of the queries and keys: every entry is a real number.
-/
module

public import proofs.«01_k».proof.Pre_finite
public import proofs.«01_k».proof.Proof.Math
public import Idealize.ShloMosaic.Lib.ReduceAll
public import Idealize.ShloMosaic.Lib.Affine

@[expose] public section

noncomputable section

namespace Cert.Hand

open Idealize.ShloMosaic Cert.Pre_finite

/-- The precondition's shape relations. -/
theorem finite_facts : Cert.Pre_finite.Facts where
  bcast_S_S16x4112x4x192 := by decide
  reducesTo_S16x4112x4x192_S_d0_1_2_3 := by decide
  h_S_ := by decide

/-- A value whose absolute value is below infinity is a real. -/
theorem real_of_abs_lt (x : EReal) (h : max x (-x) < ⊤) : ∃ r : ℝ, x = (r : EReal) := by
  induction x with
  | bot => simp at h
  | top => simp at h
  | coe r => exact ⟨r, rfl⟩

instance : Subsingleton S_.Idx := ⟨fun i j => funext fun a => a.elim0⟩

variable [Cert.Pre_finite.Facts]

/-- An entry whose comparison with infinity holds is a real. -/
theorem real_of_below (x : FVec Ideal S16x4112x4x192 .f32) (i : S16x4112x4x192.Idx)
    (e : cmpf CmpFPredicate.olt (Host.absf x) (broadcastInDim S16x4112x4x192 ![] Facts.bcast_S_S16x4112x4x192 (constant (F := Ideal) S_ .f32 0x7F800000#32)) i = 1#1) :
    ∃ r : ℝ, (x i : EReal) = (r : EReal) := by
  change Ideal.cmp .olt (max (x i : EReal) (-(x i : EReal))) (Ideal.ofBits .f32 0x7F800000#32) = 1#1 at e
  rw [bits_top] at e
  refine real_of_abs_lt _ ?_
  by_contra hn
  simp [Ideal.cmp, hn] at e

/-- Under the precondition every entry of the queries and the keys is a real. -/
theorem real_of_finite (x0 x1 : FVec Ideal S16x4112x4x192 .f32) (x2 : FVec Ideal S16x4112x4x128 .f32) (j : S_.Idx)
    (h : Cert.Pre_finite.fn (F := Ideal) x0 x1 x2 j = 1#1) :
    (∀ i, ∃ r : ℝ, (x0 i : EReal) = (r : EReal)) ∧ ∀ i, ∃ r : ℝ, (x1 i : EReal) = (r : EReal) := by
  unfold Cert.Pre_finite.fn at h
  obtain ⟨h0, h1⟩ := IntOp.andi_eq_one.1 h
  exact ⟨fun i => real_of_below x0 i (Host.reduce_andi_all _ _ _ _ j h0 i), fun i => real_of_below x1 i (Host.reduce_andi_all _ _ _ _ j h1 i)⟩

end Cert.Hand
end
-- ==== Proof.Algebraic.lean ====
/-
  The two programs' results meet: both are the values under the softmax of the scaled scores.
-/
module

public import proofs.«01_k».proof.Defs
public import proofs.«01_k».proof.Proof.KernelValue
public import proofs.«01_k».proof.Proof.RefValue
public import proofs.«01_k».proof.Proof.Finite
public import proofs.«01_k».proof.Proof.RefRun
public import Idealize.ShloMosaic.Lib.Pointwise.IndexBridge

@[expose] public section

set_option maxRecDepth 16384
noncomputable section

namespace Cert.Proof

open Idealize.ShloMosaic Idealize.SL.Sem

/-- The reference's term, for real queries and keys, is the array of the kernel's result. -/
theorem ref_heads (x0 x1 : Cert.KernelIdeal.S16x4112x4x192.Idx → EReal) (x2 : Cert.KernelIdeal.S16x4112x4x128.Idx → EReal)
    (qr kr : Cert.KernelIdeal.S16x4112x4x192.Idx → ℝ) (hq : ∀ i, x0 i = (qr i : EReal)) (hk : ∀ i, x1 i = (kr i : EReal)) :
    Cert.ReferenceIdeal.Read.val_main_v18 (F := Ideal) x0 x1 x2 = Cert.KernelIdeal.Hand.heads qr kr x2 := by
  refine funext fun (i : Cert.KernelIdeal.S16x4112x512.Idx) => ?_
  obtain ⟨b, hb⟩ : ∃ b : Fin 16, (i 0).val = b.val := ⟨i 0, rfl⟩
  obtain ⟨n, hn⟩ : ∃ n : Fin 4112, (i 1).val = n.val := ⟨i 1, rfl⟩
  obtain ⟨y, hy⟩ : ∃ y : Fin 512, (i 2).val = y.val := ⟨i 2, rfl⟩
  rw [Cert.KernelIdeal.Hand.idx3_same hb hn hy]
  have hlt := y.isLt
  obtain ⟨h, l, e⟩ : ∃ (h : Fin 4) (l : Fin 128), y.val = 128 * h.val + l.val :=
    ⟨⟨y.val / 128, by omega⟩, ⟨y.val % 128, by omega⟩, by dsimp only; omega⟩
  rw [Cert.KernelIdeal.Hand.heads_at qr kr x2 b n y h l e]
  have r := Cert.ReferenceIdeal.Hand.ref_at x0 x1 x2 b h n qr kr hq hk l y e
  simp only [← ix3_eq_valueIdx, ← ix4_eq_valueIdx] at r
  exact r

/-- The kernel and the reference leave the same result, for real queries and keys. -/
theorem algebraic [Cert.Pre_finite.Facts] : Cert.algebraic_KernelIdeal_ReferenceIdeal_pre_finite := fun m g m' g' hpre hargs => by
  have hr := fun c => Cert.Hand.real_of_finite _ _ _ (fun a => a.elim0) (congrFun (hpre c) _)
  choose qr hq using fun c => (hr c).1
  choose kr hk using fun c => (hr c).2
  refine ⟨fun c => Cert.KernelIdeal.Hand.heads (qr c) (kr c) (m ((c.tc : Thread Cert.KernelIdeal.nD Cert.KernelIdeal.τ).loc Cert.KernelIdeal.main_arg2)),
    Cert.KernelIdeal.Hand.run_value m g qr kr hq hk, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v18_eq _ _ _).trans ?_)
  rw [(hargs c).1, (hargs c).2.1, (hargs c).2.2]
  exact ref_heads _ _ _ (qr c) (kr c) (hq c) (hk c)

end Cert.Proof

end
-- ==== Proof.FinalMath.lean ====
/-
  The last call's result row by row, as the kernel and the reference both have it: the gated outputs of the mixers side by
  side, the output projection added to the residual, and the RMS norm.
-/
module

public import Idealize.ShloMosaic.Lib.Pointwise

@[expose] public section

set_option maxRecDepth 16384
noncomputable section

namespace Cert.Hand

open Idealize.ShloMosaic

/-- A row's three mixers' outputs side by side, each lane times its gate. -/
def mixRow (f p : Fin 256 → EReal) (a : Fin 512 → EReal) (g : Fin 1024 → EReal) (x : Fin 1024) : EReal :=
  if h : x.val < 256 then f ⟨x.val, h⟩ * g x
  else if h' : x.val - 256 < 256 then p ⟨x.val - 256, h'⟩ * g x
  else a ⟨x.val - 256 - 256, by omega⟩ * g x

/-- A row of the residual with the projected mix added. -/
def hidRow (M H : Fin 1024 → EReal) (W : Fin 1024 → Fin 1024 → EReal) (y : Fin 1024) : EReal := H y + ∑ x, M x * W x y

/-- A row over its root mean square, times the weight. -/
def normRow (r w : Fin 1024 → EReal) (y : Fin 1024) : EReal :=
  r y * Ideal.rsqrt (Ideal.div (∑ x, r x * r x) (Ideal.ofBits FTy.f32 1149239296#32) + Ideal.ofBits FTy.f32 897988541#32) * w y

end Cert.Hand

end
-- ==== Proof.FinalBlock.lean ====
/-
  What the last call's kernel body computes on one tile of rows, at an index.
-/
module

public import proofs.«01_k».proof.Proof.Gen.Kernel2Ideal.Skeleton
public import proofs.«01_k».proof.Proof.FinalMath
public import Idealize.ShloMosaic.Lib.Pointwise

@[expose] public section

set_option maxRecDepth 16384
noncomputable section

namespace Cert.Kernel2Ideal.Hand

open Cert.Kernel2Ideal Cert.Kernel2Ideal.Gen
open Idealize.ShloMosaic

/-- The body's result at a row and lane. -/
theorem pay_at (v0 v2 : Vec Ideal S1024x256 .bf16) (v4 : Vec Ideal S1024x512 .bf16) (v7 : Vec Ideal S1024x1024 .f32) (v9 v12 : Vec Ideal S1024x1024 .bf16)
    (v16 : Vec Ideal S1x1024 .f32) (r y : Fin 1024) :
    k0_pay1 v0 v2 v4 v7 v9 v12 v16 (ix3 0 r y)
      = Cert.Hand.normRow (Cert.Hand.hidRow (Cert.Hand.mixRow (fun x => v0 (ix2 r x)) (fun x => v2 (ix2 r x)) (fun x => v4 (ix2 r x)) fun x => v9 (ix2 r x))
          (fun x => v7 (ix2 r x)) fun x z => v12 (ix2 x z)) (fun x => v16 (ix2 0 x)) y := by
  pointwise [k0_pay1]
  simp only [Cert.Hand.normRow, Cert.Hand.hidRow, Cert.Hand.mixRow, dite_mul]

end Cert.Kernel2Ideal.Hand

end
-- ==== Proof.FinalValue.lean ====
/-
  The last call's result: the output array after the run, index by index.
-/
module

public import proofs.«01_k».proof.Proof.Gen.Kernel2Ideal.Frame
public import proofs.«01_k».proof.Proof.FinalBlock
public import proofs.«01_k».proof.Proof.KernelValue
public import Idealize.ShloMosaic.Lib.Pipeline.ValueKit

@[expose] public section

set_option maxRecDepth 16384
noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat Cfg Window BodyObligation)
open Cert.KernelIdeal.Hand (idx3_same canon_hit3 ld_at2)

/-- Indices of rank 2 with the same coordinates. -/
theorem idx2_same {n0 n1 : ℕ} {i : (⟨2, ![n0, n1]⟩ : Shape).Idx} {a : Fin n0} {b : Fin n1} (ha : (i 0).val = a.val) (hb : (i 1).val = b.val) : i = ix2 a b := by
  funext x
  apply Fin.ext
  match x with
  | ⟨0, _⟩ => exact ha
  | ⟨1, _⟩ => exact hb

/-- Where each staged window lies at a grid point: the windows of rows begin at an element, the weights are whole. -/
theorem idx_rows : ∀ t : Fin cfg0.N, (cfg0.win 0).index t = ![4112 * (t.val / 4) + 16 + 1024 * (t.val % 4), 0]
    ∧ (cfg0.win 1).index t = ![4112 * (t.val / 4) + 16 + 1024 * (t.val % 4), 0] ∧ (cfg0.win 2).index t = ![4112 * (t.val / 4) + 16 + 1024 * (t.val % 4), 0]
    ∧ (cfg0.win 3).index t = ![4112 * (t.val / 4) + 16 + 1024 * (t.val % 4), 0] ∧ (cfg0.win 4).index t = ![4112 * (t.val / 4) + 16 + 1024 * (t.val % 4), 0] := by
  decide +kernel
theorem idx_whole : ∀ t : Fin cfg0.N, (cfg0.win 5).index t = ![0, 0] ∧ (cfg0.win 6).index t = ![0, 0]
    ∧ (cfg0.win 7).index t = ![t.val / 4, t.val % 4, 0] := by decide +kernel

/-! Where an element of a grid point's block lies in its array. -/

theorem emb0 (t : Fin cfg0.N) (r : Fin 1024) (l : Fin 256) (R : Fin 65792) (hR : R.val = 4112 * (t.val / 4) + 16 + 1024 * (t.val % 4) + r.val) :
    (win0_0.blk t).view.emb (ix2 r l) = ix2 R l := by
  refine idx2_same ((Window.rect_emb_val_off win0_0 t (ix2 r l) 0).trans ?_) ((Window.rect_emb_val_off win0_0 t (ix2 r l) 1).trans ?_)
  · change (cfg0.win 0).index t 0 + r.val = R.val
    rw [(idx_rows t).1]
    exact hR.symm
  · change (cfg0.win 0).index t 1 + l.val = l.val
    rw [(idx_rows t).1]
    exact Nat.zero_add _

theorem emb1 (t : Fin cfg0.N) (r : Fin 1024) (l : Fin 256) (R : Fin 65792) (hR : R.val = 4112 * (t.val / 4) + 16 + 1024 * (t.val % 4) + r.val) :
    (win0_1.blk t).view.emb (ix2 r l) = ix2 R l := by
  refine idx2_same ((Window.rect_emb_val_off win0_1 t (ix2 r l) 0).trans ?_) ((Window.rect_emb_val_off win0_1 t (ix2 r l) 1).trans ?_)
  · change (cfg0.win 1).index t 0 + r.val = R.val
    rw [(idx_rows t).2.1]
    exact hR.symm
  · change (cfg0.win 1).index t 1 + l.val = l.val
    rw [(idx_rows t).2.1]
    exact Nat.zero_add _

theorem emb2 (t : Fin cfg0.N) (r : Fin 1024) (l : Fin 512) (R : Fin 65792) (hR : R.val = 4112 * (t.val / 4) + 16 + 1024 * (t.val % 4) + r.val) :
    (win0_2.blk t).view.emb (ix2 r l) = ix2 R l := by
  refine idx2_same ((Window.rect_emb_val_off win0_2 t (ix2 r l) 0).trans ?_) ((Window.rect_emb_val_off win0_2 t (ix2 r l) 1).trans ?_)
  · change (cfg0.win 2).index t 0 + r.val = R.val
    rw [(idx_rows t).2.2.1]
    exact hR.symm
  · change (cfg0.win 2).index t 1 + l.val = l.val
    rw [(idx_rows t).2.2.1]
    exact Nat.zero_add _

theorem emb3 (t : Fin cfg0.N) (r : Fin 1024) (l : Fin 1024) (R : Fin 65792) (hR : R.val = 4112 * (t.val / 4) + 16 + 1024 * (t.val % 4) + r.val) :
    (win0_3.blk t).view.emb (ix2 r l) = ix2 R l := by
  refine idx2_same ((Window.rect_emb_val_off win0_3 t (ix2 r l) 0).trans ?_) ((Window.rect_emb_val_off win0_3 t (ix2 r l) 1).trans ?_)
  · change (cfg0.win 3).index t 0 + r.val = R.val
    rw [(idx_rows t).2.2.2.1]
    exact hR.symm
  · change (cfg0.win 3).index t 1 + l.val = l.val
    rw [(idx_rows t).2.2.2.1]
    exact Nat.zero_add _

theorem emb4 (t : Fin cfg0.N) (r : Fin 1024) (l : Fin 1024) (R : Fin 65792) (hR : R.val = 4112 * (t.val / 4) + 16 + 1024 * (t.val % 4) + r.val) :
    (win0_4.blk t).view.emb (ix2 r l) = ix2 R l := by
  refine idx2_same ((Window.rect_emb_val_off win0_4 t (ix2 r l) 0).trans ?_) ((Window.rect_emb_val_off win0_4 t (ix2 r l) 1).trans ?_)
  · change (cfg0.win 4).index t 0 + r.val = R.val
    rw [(idx_rows t).2.2.2.2]
    exact hR.symm
  · change (cfg0.win 4).index t 1 + l.val = l.val
    rw [(idx_rows t).2.2.2.2]
    exact Nat.zero_add _

theorem emb5 (t : Fin cfg0.N) (k l : Fin 1024) : (win0_5.blk t).view.emb (ix2 k l) = ix2 k l := by
  refine idx2_same ?_ ?_
  · blk_simp [(idx_whole t).1]
  · blk_simp [(idx_whole t).1]

theorem emb6 (t : Fin cfg0.N) (l : Fin 1024) : (win0_6.blk t).view.emb (ix2 0 l) = ix2 0 l := by
  refine idx2_same ?_ ?_
  · blk_simp [(idx_whole t).2.1]
  · blk_simp [(idx_whole t).2.1]

theorem emb7 (t : Fin cfg0.N) (r l : Fin 1024) (b : Fin 16) (hb : b.val = t.val / 4) (n : Fin 4096) (hn : n.val = 1024 * (t.val % 4) + r.val) :
    (win0_7.blk t).view.emb (ix3 0 r l) = ix3 b n l := by
  refine idx3_same ?_ ?_ ?_
  · blk_simp [(idx_whole t).2.2]
    exact hb.symm
  · blk_simp [(idx_whole t).2.2]
    omega
  · blk_simp [(idx_whole t).2.2]

/-! The reshapes before the call, at an index. -/

theorem rows256_at (x : S16x4112x256.Idx → EReal) (b : Fin 16) (n : Fin 4112) (l : Fin 256) (R : Fin 65792) (hR : R.val = 4112 * b.val + n.val) :
    (shapeCast S65792x256 x shapeCasts_S16x4112x256_S65792x256 : S65792x256.Idx → EReal) (ix2 R l) = x (ix3 b n l) := by
  have hn := n.isLt
  pointwise
  exact congrArg x (idx3_same (by change R.val / 4112 = b.val; omega) (by change R.val % 4112 = n.val; omega) rfl)

theorem rows512_at (x : S16x4112x512.Idx → EReal) (b : Fin 16) (n : Fin 4112) (l : Fin 512) (R : Fin 65792) (hR : R.val = 4112 * b.val + n.val) :
    (shapeCast S65792x512 x shapeCasts_S16x4112x512_S65792x512 : S65792x512.Idx → EReal) (ix2 R l) = x (ix3 b n l) := by
  have hn := n.isLt
  pointwise
  exact congrArg x (idx3_same (by change R.val / 4112 = b.val; omega) (by change R.val % 4112 = n.val; omega) rfl)

theorem rows1024_at (x : S16x4112x1024.Idx → EReal) (b : Fin 16) (n : Fin 4112) (l : Fin 1024) (R : Fin 65792) (hR : R.val = 4112 * b.val + n.val) :
    (shapeCast S65792x1024 x shapeCasts_S16x4112x1024_S65792x1024 : S65792x1024.Idx → EReal) (ix2 R l) = x (ix3 b n l) := by
  have hn := n.isLt
  pointwise
  exact congrArg x (idx3_same (by change R.val / 4112 = b.val; omega) (by change R.val % 4112 = n.val; omega) rfl)

theorem weight_at (x : S1024.Idx → EReal) (l : Fin 1024) :
    (shapeCast S1x1024 x shapeCasts_S1024_S1x1024 : S1x1024.Idx → EReal) (ix2 0 l) = x (ix1 l) := by
  pointwise

variable (m : (ℓ : Loc nD τ sig) → Buf (Elt Ideal) ℓ) (c : Dev nD) (t : Fin cfg0.N)

/-! What the host lines before the region leave in the region's operands, the casts gone. -/

theorem V_0 : V m c main_v1 = (shapeCast S65792x256 (m ((c.tc : Thread nD τ).loc main_arg0) : S16x4112x256.Idx → EReal) shapeCasts_S16x4112x256_S65792x256 : S65792x256.Idx → EReal) := by
  show StableHlo.after hostOps0 (fun b => m (c, b)) (Proc.devRef .tc main_v1) = _
  after_results
  rfl
theorem V_1 : V m c main_v3 = (shapeCast S65792x256 (m ((c.tc : Thread nD τ).loc main_arg1) : S16x4112x256.Idx → EReal) shapeCasts_S16x4112x256_S65792x256 : S65792x256.Idx → EReal) := by
  show StableHlo.after hostOps0 (fun b => m (c, b)) (Proc.devRef .tc main_v3) = _
  after_results
  rfl
theorem V_2 : V m c main_v5 = (shapeCast S65792x512 (m ((c.tc : Thread nD τ).loc main_arg2) : S16x4112x512.Idx → EReal) shapeCasts_S16x4112x512_S65792x512 : S65792x512.Idx → EReal) := by
  show StableHlo.after hostOps0 (fun b => m (c, b)) (Proc.devRef .tc main_v5) = _
  after_results
  rfl
theorem V_3 : V m c main_v7 = (shapeCast S65792x1024 (m ((c.tc : Thread nD τ).loc main_arg3) : S16x4112x1024.Idx → EReal) shapeCasts_S16x4112x1024_S65792x1024 : S65792x1024.Idx → EReal) := by
  show StableHlo.after hostOps0 (fun b => m (c, b)) (Proc.devRef .tc main_v7) = _
  after_results
  rfl
theorem V_4 : V m c main_v8 = (shapeCast S65792x1024 (m ((c.tc : Thread nD τ).loc main_arg4) : S16x4112x1024.Idx → EReal) shapeCasts_S16x4112x1024_S65792x1024 : S65792x1024.Idx → EReal) := by
  show StableHlo.after hostOps0 (fun b => m (c, b)) (Proc.devRef .tc main_v8) = _
  after_results
  rfl
theorem V_5 : V m c main_v9 = (m ((c.tc : Thread nD τ).loc main_arg5) : S1024x1024.Idx → EReal) := by
  show StableHlo.after hostOps0 (fun b => m (c, b)) (Proc.devRef .tc main_v9) = _
  after_results
  rfl
theorem V_6 : V m c main_v10 = (shapeCast S1x1024 (m ((c.tc : Thread nD τ).loc main_arg6) : S1024.Idx → EReal) shapeCasts_S1024_S1x1024 : S1x1024.Idx → EReal) := by
  show StableHlo.after hostOps0 (fun b => m (c, b)) (Proc.devRef .tc main_v10) = _
  after_results
  rfl

/-! An element of a grid point's block, from the argument. -/

theorem blk0_of (r : Fin 1024) (l : Fin 256) (X : S65792x256.Idx → EReal) (hX : V m c main_v1 = X) (R : Fin 65792)
    (hR : R.val = 4112 * (t.val / 4) + 16 + 1024 * (t.val % 4) + r.val) : iblk m c 0 t (ix2 r l) = X (ix2 R l) := by
  unfold iblk
  have h : V m c (Pipeline.arrRef spec0 0) = X := hX
  rw [h]
  exact congrArg X (emb0 t r l R hR)
theorem blk0_at (r : Fin 1024) (l : Fin 256) (b : Fin 16) (hb : b.val = t.val / 4) (n : Fin 4112) (hn : n.val = 16 + 1024 * (t.val % 4) + r.val) :
    iblk m c 0 t (ix2 r l) = (m ((c.tc : Thread nD τ).loc main_arg0) : S16x4112x256.Idx → EReal) (ix3 b n l) := by
  have h1 := b.isLt
  have h2 := n.isLt
  exact (blk0_of m c t r l _ (V_0 m c) ⟨4112 * b.val + n.val, by omega⟩ (by dsimp only; omega)).trans (rows256_at _ b n l _ rfl)

theorem blk1_of (r : Fin 1024) (l : Fin 256) (X : S65792x256.Idx → EReal) (hX : V m c main_v3 = X) (R : Fin 65792)
    (hR : R.val = 4112 * (t.val / 4) + 16 + 1024 * (t.val % 4) + r.val) : iblk m c 1 t (ix2 r l) = X (ix2 R l) := by
  unfold iblk
  have h : V m c (Pipeline.arrRef spec0 1) = X := hX
  rw [h]
  exact congrArg X (emb1 t r l R hR)
theorem blk1_at (r : Fin 1024) (l : Fin 256) (b : Fin 16) (hb : b.val = t.val / 4) (n : Fin 4112) (hn : n.val = 16 + 1024 * (t.val % 4) + r.val) :
    iblk m c 1 t (ix2 r l) = (m ((c.tc : Thread nD τ).loc main_arg1) : S16x4112x256.Idx → EReal) (ix3 b n l) := by
  have h1 := b.isLt
  have h2 := n.isLt
  exact (blk1_of m c t r l _ (V_1 m c) ⟨4112 * b.val + n.val, by omega⟩ (by dsimp only; omega)).trans (rows256_at _ b n l _ rfl)

theorem blk2_of (r : Fin 1024) (l : Fin 512) (X : S65792x512.Idx → EReal) (hX : V m c main_v5 = X) (R : Fin 65792)
    (hR : R.val = 4112 * (t.val / 4) + 16 + 1024 * (t.val % 4) + r.val) : iblk m c 2 t (ix2 r l) = X (ix2 R l) := by
  unfold iblk
  have h : V m c (Pipeline.arrRef spec0 2) = X := hX
  rw [h]
  exact congrArg X (emb2 t r l R hR)
theorem blk2_at (r : Fin 1024) (l : Fin 512) (b : Fin 16) (hb : b.val = t.val / 4) (n : Fin 4112) (hn : n.val = 16 + 1024 * (t.val % 4) + r.val) :
    iblk m c 2 t (ix2 r l) = (m ((c.tc : Thread nD τ).loc main_arg2) : S16x4112x512.Idx → EReal) (ix3 b n l) := by
  have h1 := b.isLt
  have h2 := n.isLt
  exact (blk2_of m c t r l _ (V_2 m c) ⟨4112 * b.val + n.val, by omega⟩ (by dsimp only; omega)).trans (rows512_at _ b n l _ rfl)

theorem blk3_of (r : Fin 1024) (l : Fin 1024) (X : S65792x1024.Idx → EReal) (hX : V m c main_v7 = X) (R : Fin 65792)
    (hR : R.val = 4112 * (t.val / 4) + 16 + 1024 * (t.val % 4) + r.val) : iblk m c 3 t (ix2 r l) = X (ix2 R l) := by
  unfold iblk
  have h : V m c (Pipeline.arrRef spec0 3) = X := hX
  rw [h]
  exact congrArg X (emb3 t r l R hR)
theorem blk3_at (r : Fin 1024) (l : Fin 1024) (b : Fin 16) (hb : b.val = t.val / 4) (n : Fin 4112) (hn : n.val = 16 + 1024 * (t.val % 4) + r.val) :
    iblk m c 3 t (ix2 r l) = (m ((c.tc : Thread nD τ).loc main_arg3) : S16x4112x1024.Idx → EReal) (ix3 b n l) := by
  have h1 := b.isLt
  have h2 := n.isLt
  exact (blk3_of m c t r l _ (V_3 m c) ⟨4112 * b.val + n.val, by omega⟩ (by dsimp only; omega)).trans (rows1024_at _ b n l _ rfl)

theorem blk4_of (r : Fin 1024) (l : Fin 1024) (X : S65792x1024.Idx → EReal) (hX : V m c main_v8 = X) (R : Fin 65792)
    (hR : R.val = 4112 * (t.val / 4) + 16 + 1024 * (t.val % 4) + r.val) : iblk m c 4 t (ix2 r l) = X (ix2 R l) := by
  unfold iblk
  have h : V m c (Pipeline.arrRef spec0 4) = X := hX
  rw [h]
  exact congrArg X (emb4 t r l R hR)
theorem blk4_at (r : Fin 1024) (l : Fin 1024) (b : Fin 16) (hb : b.val = t.val / 4) (n : Fin 4112) (hn : n.val = 16 + 1024 * (t.val % 4) + r.val) :
    iblk m c 4 t (ix2 r l) = (m ((c.tc : Thread nD τ).loc main_arg4) : S16x4112x1024.Idx → EReal) (ix3 b n l) := by
  have h1 := b.isLt
  have h2 := n.isLt
  exact (blk4_of m c t r l _ (V_4 m c) ⟨4112 * b.val + n.val, by omega⟩ (by dsimp only; omega)).trans (rows1024_at _ b n l _ rfl)

theorem blk5_of (k l : Fin 1024) (X : S1024x1024.Idx → EReal) (hX : V m c main_v9 = X) : iblk m c 5 t (ix2 k l) = X (ix2 k l) := by
  unfold iblk
  have h : V m c (Pipeline.arrRef spec0 5) = X := hX
  rw [h]
  exact congrArg X (emb5 t k l)
theorem blk5_at (k l : Fin 1024) : iblk m c 5 t (ix2 k l) = (m ((c.tc : Thread nD τ).loc main_arg5) : S1024x1024.Idx → EReal) (ix2 k l) :=
  blk5_of m c t k l _ (V_5 m c)
theorem blk6_of (l : Fin 1024) (X : S1x1024.Idx → EReal) (hX : V m c main_v10 = X) : iblk m c 6 t (ix2 0 l) = X (ix2 0 l) := by
  unfold iblk
  have h : V m c (Pipeline.arrRef spec0 6) = X := hX
  rw [h]
  exact congrArg X (emb6 t l)
theorem blk6_at (l : Fin 1024) : iblk m c 6 t (ix2 0 l) = (m ((c.tc : Thread nD τ).loc main_arg6) : S1024.Idx → EReal) (ix1 l) :=
  (blk6_of m c t l _ (V_6 m c)).trans (weight_at _ l)

/-- The last call's result: at batch, position and lane, the normed row of the residual and projected mix, 16 positions on. -/
def final (x0 x1 : S16x4112x256.Idx → EReal) (x2 : S16x4112x512.Idx → EReal) (x3 x4 : S16x4112x1024.Idx → EReal) (x5 : S1024x1024.Idx → EReal)
    (x6 : S1024.Idx → EReal) (b : Fin 16) (n : Fin 4112) (y : Fin 1024) : EReal :=
  Cert.Hand.normRow (Cert.Hand.hidRow (Cert.Hand.mixRow (fun x => x0 (ix3 b n x)) (fun x => x1 (ix3 b n x)) (fun x => x2 (ix3 b n x)) fun x => x3 (ix3 b n x))
    (fun x => x4 (ix3 b n x)) fun x z => x5 (ix2 x z)) (fun x => x6 (ix1 x)) y

def finalArr (x0 x1 : S16x4112x256.Idx → EReal) (x2 : S16x4112x512.Idx → EReal) (x3 x4 : S16x4112x1024.Idx → EReal) (x5 : S1024x1024.Idx → EReal)
    (x6 : S1024.Idx → EReal) (i : S16x4096x1024.Idx) : EReal :=
  final x0 x1 x2 x3 x4 x5 x6 (i 0) ⟨16 + (i 1).val, by have : (i 1).val < 4096 := (i 1).isLt; omega⟩ (i 2)

/-- What the body leaves in its output block, at an index, from what its input blocks hold. -/
theorem out_at (x0 x1 : Vec Ideal S1024x256 .bf16) (x2 : Vec Ideal S1024x512 .bf16) (x3 : Vec Ideal S1024x1024 .bf16) (x4 : Vec Ideal S1024x1024 .f32)
    (x5 : Vec Ideal S1024x1024 .bf16) (x6 : Vec Ideal S1x1024 .f32) (r y : Fin 1024) :
    out0_7 x0 x1 x2 x3 x4 x5 x6 (ix3 0 r y)
      = Cert.Hand.normRow (Cert.Hand.hidRow (Cert.Hand.mixRow (fun x => x0 (ix2 r x)) (fun x => x1 (ix2 r x)) (fun x => x2 (ix2 r x)) fun x => x3 (ix2 r x))
          (fun x => x4 (ix2 r x)) fun x z => x5 (ix2 x z)) (fun x => x6 (ix2 0 x)) y := by
  unfold out0_7
  refine (canon_hit3 _ _ [] 0 r y 0 r y rfl (Nat.zero_add _).symm (Nat.zero_add _).symm).trans ((pay_at _ _ _ _ _ _ _ r y).trans ?_)
  have e0 : (fun x => View.ld x0 r0_0 (ix2 r x)) = fun x => x0 (ix2 r x) := funext fun x => ld_at2 _ _ r x r x (Nat.zero_add _).symm (Nat.zero_add _).symm
  have e1 : (fun x => View.ld x1 r0_0 (ix2 r x)) = fun x => x1 (ix2 r x) := funext fun x => ld_at2 _ _ r x r x (Nat.zero_add _).symm (Nat.zero_add _).symm
  have e2 : (fun x => View.ld x2 r0_1 (ix2 r x)) = fun x => x2 (ix2 r x) := funext fun x => ld_at2 _ _ r x r x (Nat.zero_add _).symm (Nat.zero_add _).symm
  have e3 : (fun x => View.ld x3 r0_2 (ix2 r x)) = fun x => x3 (ix2 r x) := funext fun x => ld_at2 _ _ r x r x (Nat.zero_add _).symm (Nat.zero_add _).symm
  have e4 : (fun x => View.ld x4 r0_2 (ix2 r x)) = fun x => x4 (ix2 r x) := funext fun x => ld_at2 _ _ r x r x (Nat.zero_add _).symm (Nat.zero_add _).symm
  have e5 : (fun x z => View.ld x5 r0_2 (ix2 x z)) = fun x z => x5 (ix2 x z) :=
    funext fun x => funext fun z => ld_at2 _ _ x z x z (Nat.zero_add _).symm (Nat.zero_add _).symm
  have e6 : (fun x => View.ld x6 r0_3 (ix2 0 x)) = fun x => x6 (ix2 0 x) := funext fun x => ld_at2 _ _ 0 x 0 x rfl (Nat.zero_add _).symm
  rw [e0, e1, e2, e3, e4, e5, e6]

/-- A grid point's output block at an index. -/
theorem block_at (r y : Fin 1024) (b : Fin 16) (hb : b.val = t.val / 4) (n : Fin 4112) (hn : n.val = 16 + 1024 * (t.val % 4) + r.val) :
    out0_7 (iblk m c 0 t) (iblk m c 1 t) (iblk m c 2 t) (iblk m c 3 t) (iblk m c 4 t) (iblk m c 5 t) (iblk m c 6 t) (ix3 0 r y)
      = final (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) b n y := by
  refine (out_at _ _ _ _ _ _ _ r y).trans ?_
  unfold final
  rw [funext fun x => blk0_at m c t r x b hb n hn, funext fun x => blk1_at m c t r x b hb n hn, funext fun x => blk2_at m c t r x b hb n hn,
    funext fun x => blk3_at m c t r x b hb n hn, funext fun x => blk4_at m c t r x b hb n hn, funext fun x => funext fun z => blk5_at m c t x z,
    funext fun x => blk6_at m c t x]

/-- The output array after the run. -/
theorem arr_out : (dats m 0 c).arrAt 7 (cfgs 0).N
    = (finalArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) : S16x4096x1024.Idx → EReal) := by
  refine (dats m 0 c).arrAt_eq_of_covers 7 _ (by decide +kernel) fun t hf y => ?_
  have ht : t.val < 64 := t.isLt
  obtain ⟨r, hr⟩ : ∃ r : Fin 1024, (y 1).val = r.val := ⟨y 1, rfl⟩
  obtain ⟨l, hl⟩ : ∃ l : Fin 1024, (y 2).val = l.val := ⟨y 2, rfl⟩
  have hlt := r.isLt
  have ey : y = ix3 0 r l := idx3_same (by have : (y 0).val < 1 := (y 0).isLt; change (y 0).val = 0; omega) hr hl
  have hb : t.val / 4 < 16 := by omega
  have hn : 1024 * (t.val % 4) + r.val < 4096 := by omega
  blk_simp
  rw [after0_7, ey, emb7 t r l ⟨t.val / 4, hb⟩ rfl ⟨1024 * (t.val % 4) + r.val, hn⟩ rfl]
  refine (block_at m c t r l ⟨t.val / 4, hb⟩ rfl ⟨16 + (1024 * (t.val % 4) + r.val), by omega⟩ (by dsimp only; omega)).trans ?_
  rfl

/-- The call's run: the result is that array, the arguments as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v11)
        = (finalArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) : S16x4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (arr_out m c), h.2 c⟩) (θ_run_and (run_main m ρ) (Gen.unchanged m ρ))

end Cert.Kernel2Ideal.Hand

end
-- ==== Proof.RefRun2.lean ====
/-
  The second reference's run and what each of its buffers holds at an index.
-/
module

public import proofs.«01_k».proof.Proof.Gen.Reference2Ideal.Run
public import proofs.«01_k».proof.Proof.Gen.Reference2Ideal.Read

@[expose] public section

end
-- ==== Proof.FinalRef.lean ====
/-
  The last call's reference at an index.
-/
module

public import proofs.«01_k».proof.Proof.RefRun2
public import proofs.«01_k».proof.Proof.FinalMath
public import Idealize.ShloMosaic.Lib.Pointwise

@[expose] public section

set_option maxRecDepth 16384
noncomputable section

namespace Cert.Reference2Ideal.Hand

open Cert.Reference2Ideal Cert.Reference2Ideal.Gen Cert.Reference2Ideal.Read
open Idealize.ShloMosaic

variable (x0 x1 : FVec Ideal S16x4112x256 .f32) (x2 : FVec Ideal S16x4112x512 .f32) (x3 x4 : FVec Ideal S16x4112x1024 .f32)
  (x5 : FVec Ideal S1024x1024 .f32) (x6 : FVec Ideal S1024 .f32)

/-- The gated mix. -/
theorem mix_at (b : Fin 16) (n : Fin 4112) (j : Fin 1024) :
    val_main_v6 (F := Ideal) x0 x1 x2 x3 (ix3 b n j)
      = Cert.Hand.mixRow (fun x => x0 (ix3 b n x)) (fun x => x1 (ix3 b n x)) (fun x => x2 (ix3 b n x)) (fun x => x3 (ix3 b n x)) j := by
  pointwise [val_main_v6, val_main_v1, val_main_v3, val_main_v5, val_main_v0, val_main_v2, val_main_v4]
  unfold Cert.Hand.mixRow
  have e1 : ∀ p, ¬ j.val < 256 → (⟨256 + (j.val - 256), p⟩ : Fin 1024) = j := fun p h => Fin.ext (by dsimp only; omega)
  have e2 : ∀ p, ¬ j.val < 256 → ¬ j.val - 256 < 256 → (⟨512 + (j.val - 256 - 256), p⟩ : Fin 1024) = j := fun p h h' => Fin.ext (by dsimp only; omega)
  split
  · rfl
  · rename_i h
    split
    · rw [e1 _ h]
    · rename_i h'
      rw [e2 _ h h']

/-- The residual with the projected mix. -/
theorem hid_at (b : Fin 16) (n : Fin 4112) (y : Fin 1024) :
    val_main_v8 (F := Ideal) x0 x1 x2 x3 x4 x5 (ix3 b n y)
      = Cert.Hand.hidRow (Cert.Hand.mixRow (fun x => x0 (ix3 b n x)) (fun x => x1 (ix3 b n x)) (fun x => x2 (ix3 b n x)) fun x => x3 (ix3 b n x))
          (fun x => x4 (ix3 b n x)) (fun x z => x5 (ix2 x z)) y := by
  unfold Cert.Hand.hidRow
  simp only [← mix_at]
  unfold val_main_v8 val_main_v7
  generalize val_main_v6 (F := Ideal) x0 x1 x2 x3 = M
  pointwise []

/-- The result. -/
theorem res_at (b : Fin 16) (n : Fin 4096) (n' : Fin 4112) (hn : n'.val = 16 + n.val) (y : Fin 1024) :
    val_main_v22 (F := Ideal) x0 x1 x2 x3 x4 x5 x6 (ix3 b n y)
      = Cert.Hand.normRow (Cert.Hand.hidRow (Cert.Hand.mixRow (fun x => x0 (ix3 b n' x)) (fun x => x1 (ix3 b n' x)) (fun x => x2 (ix3 b n' x)) fun x => x3 (ix3 b n' x))
          (fun x => x4 (ix3 b n' x)) fun x z => x5 (ix2 x z)) (fun x => x6 (ix1 x)) y := by
  have en : ∀ p, (⟨16 + n.val, p⟩ : Fin 4112) = n' := fun p => Fin.ext hn.symm
  unfold Cert.Hand.normRow
  simp only [← hid_at]
  unfold val_main_v22 val_main_v21 val_main_v18 val_main_v17 val_main_v16 val_main_v15 val_main_v13 val_main_v11 val_main_v10 val_main_v9
  generalize val_main_v8 (F := Ideal) x0 x1 x2 x3 x4 x5 = R
  pointwise [val_main_v20, val_main_v19, val_main_v14, val_main_v12, val_main_cst, val_main_cst_0, val_main_cst_1]
  simp only [en]

end Cert.Reference2Ideal.Hand

end
-- ==== Proof.Algebraic2.lean ====
/-
  The last call and its reference leave the same result: both are the normed rows of the residual and the projected mix.
-/
module

public import proofs.«01_k».proof.Defs
public import proofs.«01_k».proof.Proof.FinalValue
public import proofs.«01_k».proof.Proof.FinalRef
public import proofs.«01_k».proof.Proof.RefRun2
public import Idealize.ShloMosaic.Lib.Pointwise.IndexBridge

@[expose] public section

set_option maxRecDepth 16384
noncomputable section

namespace Cert.Proof

open Idealize.ShloMosaic Idealize.SL.Sem

/-- The reference's term is the array of the call's result. -/
theorem ref_final (x0 x1 : Cert.Kernel2Ideal.S16x4112x256.Idx → EReal) (x2 : Cert.Kernel2Ideal.S16x4112x512.Idx → EReal)
    (x3 x4 : Cert.Kernel2Ideal.S16x4112x1024.Idx → EReal) (x5 : Cert.Kernel2Ideal.S1024x1024.Idx → EReal) (x6 : Cert.Kernel2Ideal.S1024.Idx → EReal) :
    Cert.Reference2Ideal.Read.val_main_v22 (F := Ideal) x0 x1 x2 x3 x4 x5 x6 = Cert.Kernel2Ideal.Hand.finalArr x0 x1 x2 x3 x4 x5 x6 := by
  refine funext fun (i : Cert.Kernel2Ideal.S16x4096x1024.Idx) => ?_
  obtain ⟨b, hb⟩ : ∃ b : Fin 16, (i 0).val = b.val := ⟨i 0, rfl⟩
  obtain ⟨n, hn⟩ : ∃ n : Fin 4096, (i 1).val = n.val := ⟨i 1, rfl⟩
  obtain ⟨y, hy⟩ : ∃ y : Fin 1024, (i 2).val = y.val := ⟨i 2, rfl⟩
  have hlt := n.isLt
  rw [Cert.KernelIdeal.Hand.idx3_same hb hn hy]
  exact Cert.Reference2Ideal.Hand.res_at x0 x1 x2 x3 x4 x5 x6 b n ⟨16 + n.val, by omega⟩ rfl y

/-- The last call and its reference leave the same result, for any arguments. -/
theorem algebraic2 : Cert.algebraic_Kernel2Ideal_Reference2Ideal := fun m g m' g' _ hargs => by
  refine ⟨_, Cert.Kernel2Ideal.Hand.run_value m g, ?_⟩
  refine (θ_run Cert.Reference2Ideal.defs _ _).mono (fun r h c => ⟨?_, (h c).2⟩) (Cert.Reference2Ideal.Value.run (F := Ideal) m' g')
  refine (h c).1.trans ((Cert.Reference2Ideal.Read.val_main_v22_eq _ _ _ _ _ _ _).trans ?_)
  obtain ⟨h0, h1, h2, h3, h4, h5, h6⟩ := hargs c
  rw [h0, h1, h2, h3, h4, h5, h6]
  exact ref_final _ _ _ _ _ _ _

end Cert.Proof

end
-- ==== Proof.Frames2.lean ====
/-
  The frames of the last call: the arguments end unchanged and every semaphore counter is zero again.
-/
module

public import proofs.«01_k».proof.Defs
public import proofs.«01_k».proof.Proof.RefRun2
public import proofs.«01_k».proof.Proof.Gen.Kernel2.Frame
public import proofs.«01_k».proof.Proof.Gen.Kernel2Ideal.Frame
public import Idealize.ShloMosaic.Lib.Quiescent
public import Idealize.ShloMosaic.Lib.Claim

@[expose] public section

noncomputable section

namespace Cert.Proof

open Idealize.ShloMosaic Idealize.SL.Sem

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

end Cert.Proof

end
-- ==== Proof.StreamBody.lean ====
/-
  The call between two layers: its kernel body at a grid point, run through. The residual stream's block is named; of the
  other results only that they are written.
-/
module

public import proofs.«01_k».proof.Proof.Gen.Kernel3Ideal.Frame
public import proofs.«01_k».proof.Proof.Pay
public import proofs.«01_k».proof.Proof.BlockValue

@[expose] public section

set_option maxRecDepth 16384
set_option maxHeartbeats 4000000

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The residual stream's block from the mixers' blocks, the gates, the residual and the output weights. -/
def stream (x1 x2 : Vec F S512x256 .bf16) (x3 : Vec F S512x512 .bf16) (x4 : Vec F S512x1024 .bf16) (x5 : Vec F S512x1024 .f32)
    (x6 : Vec F S1024x1024 .bf16) : FVec F S512x1024 .f32 :=
  addf (shapeCast S512x1024 x5 shapeCasts_S512x1024_S512x1024)
    (matmul dot_S512x1024_S1024x1024_S512x1024_1_0_0_1_n_n none
      (mulf (concatenate S512x1024 1 [⟨S512x256, shapeCast S512x256 x1 shapeCasts_S512x256_S512x256⟩, ⟨S512x256, shapeCast S512x256 x2 shapeCasts_S512x256_S512x256⟩,
          ⟨S512x512, shapeCast S512x512 x3 shapeCasts_S512x512_S512x512⟩] concatenates_S512x256_S512x256_S512x512_S512x1024_d1)
        (shapeCast S512x1024 x4 shapeCasts_S512x1024_S512x1024))
      (shapeCast S1024x1024 x6 shapeCasts_S1024x1024_S1024x1024) (constant S512x1024 .f32 0x00000000#32))

/-- A block stored whole reads as the value stored. -/
theorem stored_all {κ : Kind} {sp : Space} {e : EltTy} {n0 n1 : ℕ} [NeZero n0] [NeZero n1] (v : View sig κ sp ⟨2, ![n0, n1]⟩ e) (f : v.ty.Contents (Elt F))
    (w : (⟨2, ![n0, n1]⟩ : Shape).Idx → Elt F e) {inb : ∀ a, (![0, 0] : Fin 2 → ℕ) a + (⟨2, ![n0, n1]⟩ : Shape).size a ≤ (⟨2, ![n0, n1]⟩ : Shape).size a} :
    v.read (Elt F) (v.writes (Elt F) f [⟨Rect.unit (s := ⟨2, ![n0, n1]⟩) ![0, 0] (⟨2, ![n0, n1]⟩ : Shape).size inb, w⟩]) = w := by
  refine (View.read_writes_eq_canon v f _ fun y => ⟨_, List.mem_cons_self, ?_⟩).trans ?_
  · change y ∈ (Rect.unit (s := ⟨2, ![n0, n1]⟩) ![0, 0] (⟨2, ![n0, n1]⟩ : Shape).size inb).set
    rw [Rect.mem_set_unit]
    intro a
    match a with
    | ⟨0, _⟩ => exact ⟨Nat.zero_le _, by have := (y 0).isLt; change (y 0).val < 0 + n0; change (y 0).val < n0 at this; omega⟩
    | ⟨1, _⟩ => exact ⟨Nat.zero_le _, by have := (y 1).isLt; change (y 1).val < 0 + n1; change (y 1).val < n1 at this; omega⟩
  · funext y
    refine Cert.KernelIdeal.Hand.canon_hit inb w [] y y fun a => ?_
    match a with
    | ⟨0, _⟩ => exact (Nat.zero_add _).symm
    | ⟨1, _⟩ => exact (Nat.zero_add _).symm

/-- A block loaded whole. -/
theorem ld_all {κ : Kind} {sp : Space} {e : EltTy} {n0 n1 : ℕ} [NeZero n0] [NeZero n1] (v : View sig κ sp ⟨2, ![n0, n1]⟩ e) (f : v.ty.Contents (Elt F))
    {inb : ∀ a, (![0, 0] : Fin 2 → ℕ) a + (⟨2, ![n0, n1]⟩ : Shape).size a ≤ (⟨2, ![n0, n1]⟩ : Shape).size a} :
    v.readAt (Elt F) (Rect.unit (s := ⟨2, ![n0, n1]⟩) ![0, 0] (⟨2, ![n0, n1]⟩ : Shape).size inb).toLoadRect f = v.read (Elt F) f := by
  funext y
  change View.ld (v.read (Elt F) f) (Rect.unit (s := ⟨2, ![n0, n1]⟩) ![0, 0] (⟨2, ![n0, n1]⟩ : Shape).size inb) y = _
  unfold View.ld
  refine congrArg (v.read (Elt F) f) (funext fun a => Fin.ext ?_)
  match a with
  | ⟨0, _⟩ => change 0 + 1 * (y 0).val = (y 0).val; omega
  | ⟨1, _⟩ => change 0 + 1 * (y 1).val = (y 1).val; omega

/-- The body's run. -/
theorem kernelRun (𝒱 : Variants) (c : Dev nD) (bd : Option 𝒱.V) (E : Set ℕ) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2432 .bf16) (harg8 : arg8.IsWhole) (arg9 : Memref sig .tc .vmem S1x384 .f32) (harg9 : arg9.IsWhole) (arg10 : Memref sig .tc .vmem S384x1024 .bf16) (harg10 : arg10.IsWhole) (arg11 : Memref sig .tc .vmem S1x256 .f32) (harg11 : arg11.IsWhole) (arg12 : Memref sig .tc .vmem S256x1024 .bf16) (harg12 : arg12.IsWhole) (arg13 : Memref sig .tc .vmem S4624x128 .f32) (harg13 : arg13.IsWhole) (arg14 : Memref sig .tc .vmem S4624x128 .f32) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f) ∗ ⌜arg15.view.read (Elt F) f = stream (arg1.view.read (Elt F) X1) (arg2.view.read (Elt F) X2) (arg3.view.read (Elt F) X3) (arg4.view.read (Elt F) X4) (arg5.view.read (Elt F) X5) (arg6.view.read (Elt F) X6)⌝) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩))
      ⊢ wp frame (wpE (defs₀ (F := F)) 𝒱 (c : Thread nD τ) bd) E (cc0_outin (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  sl_unfold [cc0_outin, k0_part5, k0_part4, k0_part3, k0_part2, k0_part1]
  iintro ⟨H1, H2, H3, H4, H5, H6, H7, H8, H9, H10, H11, H12, H13, H14, ⟨%f15, H15⟩, ⟨%f16, H16⟩, ⟨%f17, H17⟩, ⟨%f18, H18⟩, ⟨%f19, H19⟩, ⟨%f20, H20⟩, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iexists _; isplitl [H15]; · iexact H15
    ipureintro
    refine (stored_all _ _ _).trans ?_
    rw [← ld_all arg1.view X1 (inb := inb_S512x256_S512x256_0_0), ← ld_all arg2.view X2 (inb := inb_S512x256_S512x256_0_0),
      ← ld_all arg3.view X3 (inb := inb_S512x512_S512x512_0_0), ← ld_all arg4.view X4 (inb := inb_S512x1024_S512x1024_0_0),
      ← ld_all arg5.view X5 (inb := inb_S512x1024_S512x1024_0_0), ← ld_all arg6.view X6 (inb := inb_S1024x1024_S1024x1024_0_0)]
    rfl
  isplitl [H16]; · iexists _; iexact H16
  isplitl [H17]; · iexists _; iexact H17
  isplitl [H18]; · iexists _; iexact H18
  isplitl [H19]; · iexists _; iexact H19
  iexists _; iexact H20

end Cert.Kernel3Ideal.Hand

end
-- ==== Proof.StreamRun.lean ====
/-
  The run of the call between two layers: the pipeline's proof data, the body at every grid point, and the launch. The last
  block of rows overhangs its array, so the windows of rows hold their block on the rows inside and anything below.
-/
module

public import proofs.«01_k».proof.Proof.StreamBody
public import Idealize.ShloMosaic.Lib.Pipeline.FrameSuffix
public import Idealize.ShloMosaic.Lib.Claim

@[expose] public section

set_option maxRecDepth 8192
set_option maxHeartbeats 4000000

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- A staging buffer that held `d`, its window's block at point `t` fetched into it. -/
def over (c : Dev nD) (w : Fin cfg0.W) (t : Fin cfg0.N) (d : (cfg0.win w).block.Idx → Elt F (cfg0.win w).elt) :
    (cfg0.win w).block.Idx → Elt F (cfg0.win w).elt := (cfg0.win w).fill (cfg0.grid.coords t) d (iblk m c w t)

/-- The same over contents left open. -/
def wide (c : Dev nD) (w : Fin cfg0.W) (t : Fin cfg0.N) : (cfg0.win w).block.Idx → Elt F (cfg0.win w).elt :=
  over m c w t (Pipeline.Dat.unnamed (cfg := cfg0) w t)

/-- What the body leaves in the residual stream's block at point `t`. -/
def blockOut (c : Dev nD) (t : Fin cfg0.N) : S512x1024.Idx → Elt F .f32 :=
  stream (wide m c 0 t) (wide m c 1 t) (wide m c 2 t) (wide m c 3 t) (wide m c 4 t) (iblk m c 5 t)

/-- The proof data: inputs keep their blocks, the residual stream's block ends at `blockOut`, the rest is left open. -/
def dats (_ : Fin 1) (c : Dev nD) : Dat τ (Elt F) Unit ℕ (UR sig nD τ) ℕ cfg0 c where
  A w := V m c (Pipeline.arrRef spec0 w)
  after w t := match w with
    | ⟨0, _⟩ => wide m c 0 t
    | ⟨1, _⟩ => wide m c 1 t
    | ⟨2, _⟩ => wide m c 2 t
    | ⟨3, _⟩ => wide m c 3 t
    | ⟨4, _⟩ => wide m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => blockOut m c t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨n + 20, h⟩ => absurd (show n + 20 < 20 from h) (by omega)
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = wide m c 0 t := by dsimp only [dats]
theorem left1 (c : Dev nD) (t : Fin cfg0.N) : (dats m 0 c).after 1 t = wide m c 1 t := by dsimp only [dats]
theorem left2 (c : Dev nD) (t : Fin cfg0.N) : (dats m 0 c).after 2 t = wide m c 2 t := by dsimp only [dats]
theorem left3 (c : Dev nD) (t : Fin cfg0.N) : (dats m 0 c).after 3 t = wide m c 3 t := by dsimp only [dats]
theorem left4 (c : Dev nD) (t : Fin cfg0.N) : (dats m 0 c).after 4 t = wide m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = iblk m c 11 t := by dsimp only [dats]
theorem left12 (c : Dev nD) (t : Fin cfg0.N) : (dats m 0 c).after 12 t = iblk m c 12 t := by dsimp only [dats]
theorem left13 (c : Dev nD) (t : Fin cfg0.N) : (dats m 0 c).after 13 t = iblk m c 13 t := by dsimp only [dats]
theorem left14 (c : Dev nD) (t : Fin cfg0.N) : (dats m 0 c).after 14 t = blockOut m c t := by dsimp only [dats]

theorem fetches : ∀ t : Fin cfg0.N, (cfg0.win 0).fetch t = true ∧ (cfg0.win 1).fetch t = true ∧ (cfg0.win 2).fetch t = true
    ∧ (cfg0.win 3).fetch t = true ∧ (cfg0.win 4).fetch t = true := by decide +kernel

/-- A window fetched at every point holds its block over what its buffer held. -/
theorem found_of (c : Dev nD) (w : Fin cfg0.W) (t : Fin cfg0.N) (h : (cfg0.win w).fetch t = true) (d) :
    (dats m 0 c).before w t d = over m c w t d := by
  unfold Dat.before
  rw [if_pos h]
  unfold Dat.fetched Dat.blockOf over iblk
  rw [dats_A]

theorem found0 (c : Dev nD) (t : Fin cfg0.N) (d) : (dats m 0 c).before 0 t d = over m c 0 t d := found_of m c 0 t (fetches t).1 d
theorem found1 (c : Dev nD) (t : Fin cfg0.N) (d) : (dats m 0 c).before 1 t d = over m c 1 t d := found_of m c 1 t (fetches t).2.1 d
theorem found2 (c : Dev nD) (t : Fin cfg0.N) (d) : (dats m 0 c).before 2 t d = over m c 2 t d := found_of m c 2 t (fetches t).2.2.1 d
theorem found3 (c : Dev nD) (t : Fin cfg0.N) (d) : (dats m 0 c).before 3 t d = over m c 3 t d := found_of m c 3 t (fetches t).2.2.2.1 d
theorem found4 (c : Dev nD) (t : Fin cfg0.N) (d) : (dats m 0 c).before 4 t d = over m c 4 t d := found_of m c 4 t (fetches t).2.2.2.2 d
theorem found5 (c : Dev nD) (t : Fin cfg0.N) (d) : (dats m 0 c).before 5 t d = iblk m c 5 t :=
  before0_5_of m (dats m 0 c) (dats_A m c 5) (left5 m c) t d
theorem found6 (c : Dev nD) (t : Fin cfg0.N) (d) : (dats m 0 c).before 6 t d = iblk m c 6 t :=
  before0_6_of m (dats m 0 c) (dats_A m c 6) (left6 m c) t d
theorem found7 (c : Dev nD) (t : Fin cfg0.N) (d) : (dats m 0 c).before 7 t d = iblk m c 7 t :=
  before0_7_of m (dats m 0 c) (dats_A m c 7) (left7 m c) t d
theorem found8 (c : Dev nD) (t : Fin cfg0.N) (d) : (dats m 0 c).before 8 t d = iblk m c 8 t :=
  before0_8_of m (dats m 0 c) (dats_A m c 8) (left8 m c) t d
theorem found9 (c : Dev nD) (t : Fin cfg0.N) (d) : (dats m 0 c).before 9 t d = iblk m c 9 t :=
  before0_9_of m (dats m 0 c) (dats_A m c 9) (left9 m c) t d
theorem found10 (c : Dev nD) (t : Fin cfg0.N) (d) : (dats m 0 c).before 10 t d = iblk m c 10 t :=
  before0_10_of m (dats m 0 c) (dats_A m c 10) (left10 m c) t d
theorem found11 (c : Dev nD) (t : Fin cfg0.N) (d) : (dats m 0 c).before 11 t d = iblk m c 11 t :=
  before0_11_of m (dats m 0 c) (dats_A m c 11) (left11 m c) t d
theorem found12 (c : Dev nD) (t : Fin cfg0.N) (d) : (dats m 0 c).before 12 t d = iblk m c 12 t :=
  before0_12_of m (dats m 0 c) (dats_A m c 12) (left12 m c) t d
theorem found13 (c : Dev nD) (t : Fin cfg0.N) (d) : (dats m 0 c).before 13 t d = iblk m c 13 t :=
  before0_13_of m (dats m 0 c) (dats_A m c 13) (left13 m c) t d

/-- Filling a fetched buffer again with its window's block changes nothing. -/
theorem refill (c : Dev nD) (w : Fin cfg0.W) (t : Fin cfg0.N) (d) :
    (cfg0.win w).fill (cfg0.grid.coords t) (over m c w t d) ((cfg0.win w).cut (cfg0.grid.coords t) (wide m c w t)) = over m c w t d :=
  (cfg0.win w).fill_congr_cut _ (((cfg0.win w).cut_fill _ _ _).trans ((cfg0.win w).cut_fill _ _ _).symm)

/-- What the body starts from at point `t`. -/
def pointPre (P : sProp 𝕄) (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ P
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

/-- What the body ends at. -/
def pointPost (P : sProp 𝕄) (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ P
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

/-- The body at point `t`, whatever is asked of the residual stream's block that the body's value gives. -/
theorem point_run (c : Dev nD) (t : Fin cfg0.N) (P P' : sProp 𝕄) (hP : P ⊢ iprop(∃ d, owns (c : Thread nD τ) (st0_14 t) fullShare d))
    (hP' : ∀ d0 d1 d2 d3 d4, (owns (c : Thread nD τ) (st0_14 t) fullShare
      (stream (over m c 0 t d0) (over m c 1 t d1) (over m c 2 t d2) (over m c 3 t d3) (over m c 4 t d4) (iblk m c 5 t)) : sProp 𝕄) ⊢ P') :
    pointPre m P c t ⊢ wp frame (wpE (defs₀ (F := F)) Variants.none c none) Set.univ (bodyAt0 t) (fun _ => pointPost m P' c t) := by
  unfold pointPre pointPost bodyAt0
  simp only [found0, found1, found2, found3, found4, found5, found6, found7, found8, found9, found10, found11, found12, found13]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12, left13]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17, H18, H19⟩
  ihave H14 := hP $$ H14
  unfold owns
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%d14, %f14, -, H14⟩
  icases H15 with ⟨%d15, %f15, -, H15⟩
  icases H16 with ⟨%d16, %f16, -, H16⟩
  icases H17 with ⟨%d17, %f17, -, H17⟩
  icases H18 with ⟨%d18, %f18, -, H18⟩
  icases H19 with ⟨%d19, %f19, -, H19⟩
  iapply (kernelRun Variants.none c none Set.univ _ _ _ _ _ _ _ _ _ _ _ _ _ _ _ _ _ _ _ _ _ _ _ _ _ _ _ _ _ _ _ _ _ _ _ _ _ _ _ _ _ f0 f1 f2 f3 f4 f5 f6 f7 f8 f9 f10 f11 f12 f13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, ⟨%g14, H14, %eg⟩, ⟨%g15, H15⟩, ⟨%g16, H16⟩, ⟨%g17, H17⟩, ⟨%g18, H18⟩, ⟨%g19, H19⟩⟩
  isplitl [Hg]; · iexact Hg
  isplitl [Ho]; · iexact Ho
  isplitl [H0]
  · iexists (over m c 0 t d0), f0; isplitr; · ipureintro; exact e0.trans (refill m c 0 t d0).symm
    iexact H0
  isplitl [H1]
  · iexists (over m c 1 t d1), f1; isplitr; · ipureintro; exact e1.trans (refill m c 1 t d1).symm
    iexact H1
  isplitl [H2]
  · iexists (over m c 2 t d2), f2; isplitr; · ipureintro; exact e2.trans (refill m c 2 t d2).symm
    iexact H2
  isplitl [H3]
  · iexists (over m c 3 t d3), f3; isplitr; · ipureintro; exact e3.trans (refill m c 3 t d3).symm
    iexact H3
  isplitl [H4]
  · iexists (over m c 4 t d4), f4; isplitr; · ipureintro; exact e4.trans (refill m c 4 t d4).symm
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iapply (hP' d0 d1 d2 d3 d4)
    unfold owns
    iexists g14; isplitr
    · ipureintro
      rw [← e0, ← e1, ← e2, ← e3, ← e4, ← e5]
      exact eg
    iexact H14
  isplitl [H15]
  · iexists _, g15; isplitr; swap; · iexact H15
    ipureintro; rfl
  isplitl [H16]
  · iexists _, g16; isplitr; swap; · iexact H16
    ipureintro; rfl
  isplitl [H17]
  · iexists _, g17; isplitr; swap; · iexact H17
    ipureintro; rfl
  isplitl [H18]
  · iexists _, g18; isplitr; swap; · iexact H18
    ipureintro; rfl
  iexists _, g19; isplitr; swap; · iexact H19
  ipureintro; rfl

theorem row_at (t : Fin cfg0.N) :
    defs₀ (F := F) .tc cfg0.body (cfg0.bodyArgs t (cfg0.slots t)) = bodyAt0 t := by
  unfold defs₀; rw [Defs.onTc_tc]

/-- The outputs left open: every one of them. -/
def none14 (w : Fin 20) : Bool := Nat.ble 14 w.val
/-- The outputs left open: every one but the residual stream. -/
def all14 (w : Fin 20) : Bool := Nat.ble 15 w.val

theorem every_point (c : Dev nD) : BodyObligationLoose (dats (F := F) m 0 c) (defs₀ (F := F)) Variants.none () Set.univ none14 := fun t => by
  rw [bigSep_W0, bigSep_W0, row_at]
  exact triple_restated (point_run m c t iprop(∃ d, owns (c : Thread nD τ) (st0_14 t) fullShare d) iprop(∃ d, owns (c : Thread nD τ) (st0_14 t) fullShare d) .rfl
    (fun d0 d1 d2 d3 d4 => by iintro H; iexists _; iexact H)) rfl .rfl fun _ => .rfl

set_option backward.isDefEq.respectTransparency.types false in
/-- The call ends, every buffer that is no window's array as the region found it, every counter at zero. -/
theorem whole_run : θ_run defs (onTc (τ := τ) (main (F := F))) (s₀ m ρ)
    (fun r => Pipeline.RDat.FramePost (cfgs 0) (fun c => (dats m 0 c).toRForget none14) (V m) r ∧ r.2.sem = fun _ => 0) :=
  Pipeline.θ_run_frame_forget (Q' := _) cfgs (dats m) (0 : Fin 1) launch0 defs₀ Variants.none none14 m ρ main
    (hbody := fun c => every_point m c) (hshare := fun c => (dats m 0 c).share_full fun _ => rfl)
    (howed := fun _ _ => rfl) (V := V m) (hmain := hmain m Variants.none) (hA := dats_A m) (hΦ := fun _ _ => rfl)

/-- The arguments end as they began, the counters at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨
((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩)
    (whole_run m ρ)

end Cert.Kernel3Ideal.Hand

end
-- ==== Proof.StreamHost.lean ====
/-
  What the host lines before the call between two layers leave in its operands, the casts gone.
-/
module

public import proofs.«01_k».proof.Proof.Gen.Kernel3Ideal.Frame
public import Idealize.ShloMosaic.Lib.Pipeline.ValueKit

@[expose] public section

set_option maxRecDepth 16384
set_option maxHeartbeats 4000000
noncomputable section

namespace Cert.Kernel3Ideal.Hand

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

theorem V_0 : V m c main_v1 = (shapeCast S65792x256 (m ((c.tc : Thread nD τ).loc main_arg0) : S16x4112x256.Idx → EReal) shapeCasts_S16x4112x256_S65792x256 : S65792x256.Idx → EReal) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results
  rfl
theorem V_1 : V m c main_v3 = (shapeCast S65792x256 (m ((c.tc : Thread nD τ).loc main_arg1) : S16x4112x256.Idx → EReal) shapeCasts_S16x4112x256_S65792x256 : S65792x256.Idx → EReal) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append]
  after_results
  rfl
theorem V_2 : V m c main_v5 = (shapeCast S65792x512 (m ((c.tc : Thread nD τ).loc main_arg2) : S16x4112x512.Idx → EReal) shapeCasts_S16x4112x512_S65792x512 : S65792x512.Idx → EReal) := by
  show StableHlo.after (List.flatten [hostOps0, hostOps0_1, hostOps0_2]) (fun b => m (c, b)) (Proc.devRef .tc main_v5) = _
  simp only [hostOps0, hostOps0_1, hostOps0_2, List.flatten_cons, List.flatten_nil, List.append_nil, List.cons_append, List.nil_append]
  after_results
  rfl
theorem V_3 : V m c main_v7 = (shapeCast S65792x1024 (m ((c.tc : Thread nD τ).loc main_arg3) : S16x4112x1024.Idx → EReal) shapeCasts_S16x4112x1024_S65792x1024 : S65792x1024.Idx → EReal) := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append, List.nil_append]
  after_results
  rfl
theorem V_4 : V m c main_v80 = (shapeCast S65792x1024 (m ((c.tc : Thread nD τ).loc main_arg4) : S16x4112x1024.Idx → EReal) shapeCasts_S16x4112x1024_S65792x1024 : S65792x1024.Idx → EReal) := by
  show StableHlo.after (List.flatten [hostOps0, hostOps0_1, hostOps0_2]) (fun b => m (c, b)) (Proc.devRef .tc main_v80) = _
  simp only [hostOps0, hostOps0_1, hostOps0_2, List.flatten_cons, List.flatten_nil, List.append_nil, List.cons_append, List.nil_append]
  after_results
  rfl
theorem V_5 : V m c main_v81 = (m ((c.tc : Thread nD τ).loc main_arg5) : S1024x1024.Idx → EReal) := by
  show StableHlo.after (List.flatten [hostOps0, hostOps0_1, hostOps0_2]) (fun b => m (c, b)) (Proc.devRef .tc main_v81) = _
  simp only [hostOps0, hostOps0_1, hostOps0_2, List.flatten_cons, List.flatten_nil, List.append_nil, List.cons_append, List.nil_append]
  after_results
  rfl

end Cert.Kernel3Ideal.Hand

end
-- ==== Proof.StreamBlock.lean ====
/-
  The residual stream's block at an index.
-/
module

public import proofs.«01_k».proof.Proof.StreamBody
public import proofs.«01_k».proof.Proof.FinalMath
public import Idealize.ShloMosaic.Lib.Pointwise

@[expose] public section

set_option maxRecDepth 16384
noncomputable section

namespace Cert.Kernel3Ideal.Hand

open Cert.Kernel3Ideal Cert.Kernel3Ideal.Gen
open Idealize.ShloMosaic

/-- The block's element at a row and lane, from that row of the operands. -/
theorem stream_at (v0 v2 : Vec Ideal S512x256 .bf16) (v4 : Vec Ideal S512x512 .bf16) (v9 : Vec Ideal S512x1024 .bf16) (v7 : Vec Ideal S512x1024 .f32)
    (v12 : Vec Ideal S1024x1024 .bf16) (r : Fin 512) (y : Fin 1024) :
    stream v0 v2 v4 v9 v7 v12 (ix2 r y)
      = Cert.Hand.hidRow (Cert.Hand.mixRow (fun x => v0 (ix2 r x)) (fun x => v2 (ix2 r x)) (fun x => v4 (ix2 r x)) fun x => v9 (ix2 r x))
          (fun x => v7 (ix2 r x)) (fun x z => v12 (ix2 x z)) y := by
  pointwise [stream]
  simp only [Cert.Hand.hidRow, Cert.Hand.mixRow, dite_mul]

end Cert.Kernel3Ideal.Hand

end
-- ==== Proof.StreamValue.lean ====
/-
  The residual stream after the call between two layers, index by index.
-/
module

public import proofs.«01_k».proof.Proof.StreamRun
public import proofs.«01_k».proof.Proof.StreamHost
public import proofs.«01_k».proof.Proof.StreamBlock
public import proofs.«01_k».proof.Proof.FinalValue

@[expose] public section

set_option maxRecDepth 16384
set_option maxHeartbeats 4000000
noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.Kernel2Ideal.Hand (idx2_same)
open Cert.KernelIdeal.Hand (idx3_same)

local notation "𝕄" => MT nD τ sig Unit (Elt Ideal) ℕ (UR sig nD τ) ℕ

/-! Where the blocks of rows begin, and how many of a block's rows lie inside the array. -/

theorem idx0 : ∀ t : Fin cfg0.N, win0_0.index t = ![t.val, 0] := by decide +kernel
theorem ext0 : ∀ t : Fin cfg0.N, win0_0.xsize (cfg0.grid.coords t) (0 : Fin 2) = min 512 (65792 - 512 * t.val)
    ∧ win0_0.xsize (cfg0.grid.coords t) (1 : Fin 2) = 256 := by decide +kernel
theorem idx1 : ∀ t : Fin cfg0.N, win0_1.index t = ![t.val, 0] := by decide +kernel
theorem ext1 : ∀ t : Fin cfg0.N, win0_1.xsize (cfg0.grid.coords t) (0 : Fin 2) = min 512 (65792 - 512 * t.val)
    ∧ win0_1.xsize (cfg0.grid.coords t) (1 : Fin 2) = 256 := by decide +kernel
theorem idx2 : ∀ t : Fin cfg0.N, win0_2.index t = ![t.val, 0] := by decide +kernel
theorem ext2 : ∀ t : Fin cfg0.N, win0_2.xsize (cfg0.grid.coords t) (0 : Fin 2) = min 512 (65792 - 512 * t.val)
    ∧ win0_2.xsize (cfg0.grid.coords t) (1 : Fin 2) = 512 := by decide +kernel
theorem idx3 : ∀ t : Fin cfg0.N, win0_3.index t = ![t.val, 0] := by decide +kernel
theorem ext3 : ∀ t : Fin cfg0.N, win0_3.xsize (cfg0.grid.coords t) (0 : Fin 2) = min 512 (65792 - 512 * t.val)
    ∧ win0_3.xsize (cfg0.grid.coords t) (1 : Fin 2) = 1024 := by decide +kernel
theorem idx4 : ∀ t : Fin cfg0.N, win0_4.index t = ![t.val, 0] := by decide +kernel
theorem ext4 : ∀ t : Fin cfg0.N, win0_4.xsize (cfg0.grid.coords t) (0 : Fin 2) = min 512 (65792 - 512 * t.val)
    ∧ win0_4.xsize (cfg0.grid.coords t) (1 : Fin 2) = 1024 := by decide +kernel
theorem idx14 : ∀ t : Fin cfg0.N, win0_14.index t = ![t.val, 0] := by decide +kernel
theorem ext14 : ∀ t : Fin cfg0.N, win0_14.xsize (cfg0.grid.coords t) (0 : Fin 2) = min 512 (65792 - 512 * t.val)
    ∧ win0_14.xsize (cfg0.grid.coords t) (1 : Fin 2) = 1024 := by decide +kernel
theorem idx5 : ∀ t : Fin cfg0.N, (cfg0.win 5).index t = ![0, 0] := by decide +kernel

theorem emb5 (t : Fin cfg0.N) (k l : Fin 1024) : (win0_5.blk t).view.emb (ix2 k l) = ix2 k l := by
  refine idx2_same ?_ ?_
  · blk_simp [idx5 t]
  · blk_simp [idx5 t]

/-! The reshapes before the call, at an index. -/

theorem rows256_at (x : S16x4112x256.Idx → EReal) (b : Fin 16) (n : Fin 4112) (l : Fin 256) (R : Fin 65792) (hR : R.val = 4112 * b.val + n.val) :
    (shapeCast S65792x256 x shapeCasts_S16x4112x256_S65792x256 : S65792x256.Idx → EReal) (ix2 R l) = x (ix3 b n l) := by
  have hn := n.isLt
  pointwise
  exact congrArg x (idx3_same (by change R.val / 4112 = b.val; omega) (by change R.val % 4112 = n.val; omega) rfl)

theorem rows512_at (x : S16x4112x512.Idx → EReal) (b : Fin 16) (n : Fin 4112) (l : Fin 512) (R : Fin 65792) (hR : R.val = 4112 * b.val + n.val) :
    (shapeCast S65792x512 x shapeCasts_S16x4112x512_S65792x512 : S65792x512.Idx → EReal) (ix2 R l) = x (ix3 b n l) := by
  have hn := n.isLt
  pointwise
  exact congrArg x (idx3_same (by change R.val / 4112 = b.val; omega) (by change R.val % 4112 = n.val; omega) rfl)

theorem rows1024_at (x : S16x4112x1024.Idx → EReal) (b : Fin 16) (n : Fin 4112) (l : Fin 1024) (R : Fin 65792) (hR : R.val = 4112 * b.val + n.val) :
    (shapeCast S65792x1024 x shapeCasts_S16x4112x1024_S65792x1024 : S65792x1024.Idx → EReal) (ix2 R l) = x (ix3 b n l) := by
  have hn := n.isLt
  pointwise
  exact congrArg x (idx3_same (by change R.val / 4112 = b.val; omega) (by change R.val % 4112 = n.val; omega) rfl)

variable (m : (ℓ : Loc nD τ sig) → Buf (Elt Ideal) ℓ) (c : Dev nD) (t : Fin cfg0.N)

/-! A fetched buffer's element on a row inside the array, from the argument. -/

theorem over0_of (d) (r : Fin 512) (l : Fin 256) (X : S65792x256.Idx → EReal) (hX : V m c main_v1 = X) (R : Fin 65792) (hR : R.val = 512 * t.val + r.val) :
    over m c 0 t d (ix2 r l) = X (ix2 R l) := by
  have hr := r.isLt
  have hl := l.isLt
  have hR' := R.isLt
  have hm : (cfg0.win 0).moved (cfg0.grid.coords t) (ix2 r l) = true := ((cfg0.win 0).moved_iff _ _).mpr fun a => by
    match a with
    | ⟨0, _⟩ =>
      have h : win0_0.xsize (cfg0.grid.coords t) (0 : Fin 2) = _ := (ext0 t).1
      change r.val < win0_0.xsize (cfg0.grid.coords t) (0 : Fin 2)
      omega
    | ⟨1, _⟩ =>
      have h : win0_0.xsize (cfg0.grid.coords t) (1 : Fin 2) = _ := (ext0 t).2
      change l.val < win0_0.xsize (cfg0.grid.coords t) (1 : Fin 2)
      omega
  unfold over Window.fill
  rw [dif_pos hm]
  unfold iblk
  have h : V m c (Pipeline.arrRef spec0 0) = X := hX
  rw [h]
  refine congrArg X (idx2_same ((Window.rect_emb_val win0_0 t _ 0).trans ?_) ((Window.rect_emb_val win0_0 t _ 1).trans ?_))
  · change win0_0.index t 0 * 512 + r.val = R.val
    rw [idx0]
    change t.val * 512 + r.val = R.val
    omega
  · change win0_0.index t 1 * 256 + l.val = l.val
    rw [idx0]
    exact (congrArg (· + l.val) (Nat.zero_mul 256)).trans (Nat.zero_add _)
theorem over0_at (d) (r : Fin 512) (l : Fin 256) (b : Fin 16) (n : Fin 4112) (hR : 4112 * b.val + n.val = 512 * t.val + r.val) :
    over m c 0 t d (ix2 r l) = (m ((c.tc : Thread nD τ).loc main_arg0) : S16x4112x256.Idx → EReal) (ix3 b n l) := by
  have h1 := b.isLt
  have h2 := n.isLt
  exact (over0_of m c t d r l _ (V_0 m c) ⟨4112 * b.val + n.val, by omega⟩ hR).trans (rows256_at _ b n l _ rfl)

theorem over1_of (d) (r : Fin 512) (l : Fin 256) (X : S65792x256.Idx → EReal) (hX : V m c main_v3 = X) (R : Fin 65792) (hR : R.val = 512 * t.val + r.val) :
    over m c 1 t d (ix2 r l) = X (ix2 R l) := by
  have hr := r.isLt
  have hl := l.isLt
  have hR' := R.isLt
  have hm : (cfg0.win 1).moved (cfg0.grid.coords t) (ix2 r l) = true := ((cfg0.win 1).moved_iff _ _).mpr fun a => by
    match a with
    | ⟨0, _⟩ =>
      have h : win0_1.xsize (cfg0.grid.coords t) (0 : Fin 2) = _ := (ext1 t).1
      change r.val < win0_1.xsize (cfg0.grid.coords t) (0 : Fin 2)
      omega
    | ⟨1, _⟩ =>
      have h : win0_1.xsize (cfg0.grid.coords t) (1 : Fin 2) = _ := (ext1 t).2
      change l.val < win0_1.xsize (cfg0.grid.coords t) (1 : Fin 2)
      omega
  unfold over Window.fill
  rw [dif_pos hm]
  unfold iblk
  have h : V m c (Pipeline.arrRef spec0 1) = X := hX
  rw [h]
  refine congrArg X (idx2_same ((Window.rect_emb_val win0_1 t _ 0).trans ?_) ((Window.rect_emb_val win0_1 t _ 1).trans ?_))
  · change win0_1.index t 0 * 512 + r.val = R.val
    rw [idx1]
    change t.val * 512 + r.val = R.val
    omega
  · change win0_1.index t 1 * 256 + l.val = l.val
    rw [idx1]
    exact (congrArg (· + l.val) (Nat.zero_mul 256)).trans (Nat.zero_add _)
theorem over1_at (d) (r : Fin 512) (l : Fin 256) (b : Fin 16) (n : Fin 4112) (hR : 4112 * b.val + n.val = 512 * t.val + r.val) :
    over m c 1 t d (ix2 r l) = (m ((c.tc : Thread nD τ).loc main_arg1) : S16x4112x256.Idx → EReal) (ix3 b n l) := by
  have h1 := b.isLt
  have h2 := n.isLt
  exact (over1_of m c t d r l _ (V_1 m c) ⟨4112 * b.val + n.val, by omega⟩ hR).trans (rows256_at _ b n l _ rfl)

theorem over2_of (d) (r : Fin 512) (l : Fin 512) (X : S65792x512.Idx → EReal) (hX : V m c main_v5 = X) (R : Fin 65792) (hR : R.val = 512 * t.val + r.val) :
    over m c 2 t d (ix2 r l) = X (ix2 R l) := by
  have hr := r.isLt
  have hl := l.isLt
  have hR' := R.isLt
  have hm : (cfg0.win 2).moved (cfg0.grid.coords t) (ix2 r l) = true := ((cfg0.win 2).moved_iff _ _).mpr fun a => by
    match a with
    | ⟨0, _⟩ =>
      have h : win0_2.xsize (cfg0.grid.coords t) (0 : Fin 2) = _ := (ext2 t).1
      change r.val < win0_2.xsize (cfg0.grid.coords t) (0 : Fin 2)
      omega
    | ⟨1, _⟩ =>
      have h : win0_2.xsize (cfg0.grid.coords t) (1 : Fin 2) = _ := (ext2 t).2
      change l.val < win0_2.xsize (cfg0.grid.coords t) (1 : Fin 2)
      omega
  unfold over Window.fill
  rw [dif_pos hm]
  unfold iblk
  have h : V m c (Pipeline.arrRef spec0 2) = X := hX
  rw [h]
  refine congrArg X (idx2_same ((Window.rect_emb_val win0_2 t _ 0).trans ?_) ((Window.rect_emb_val win0_2 t _ 1).trans ?_))
  · change win0_2.index t 0 * 512 + r.val = R.val
    rw [idx2]
    change t.val * 512 + r.val = R.val
    omega
  · change win0_2.index t 1 * 512 + l.val = l.val
    rw [idx2]
    exact (congrArg (· + l.val) (Nat.zero_mul 512)).trans (Nat.zero_add _)
theorem over2_at (d) (r : Fin 512) (l : Fin 512) (b : Fin 16) (n : Fin 4112) (hR : 4112 * b.val + n.val = 512 * t.val + r.val) :
    over m c 2 t d (ix2 r l) = (m ((c.tc : Thread nD τ).loc main_arg2) : S16x4112x512.Idx → EReal) (ix3 b n l) := by
  have h1 := b.isLt
  have h2 := n.isLt
  exact (over2_of m c t d r l _ (V_2 m c) ⟨4112 * b.val + n.val, by omega⟩ hR).trans (rows512_at _ b n l _ rfl)

theorem over3_of (d) (r : Fin 512) (l : Fin 1024) (X : S65792x1024.Idx → EReal) (hX : V m c main_v7 = X) (R : Fin 65792) (hR : R.val = 512 * t.val + r.val) :
    over m c 3 t d (ix2 r l) = X (ix2 R l) := by
  have hr := r.isLt
  have hl := l.isLt
  have hR' := R.isLt
  have hm : (cfg0.win 3).moved (cfg0.grid.coords t) (ix2 r l) = true := ((cfg0.win 3).moved_iff _ _).mpr fun a => by
    match a with
    | ⟨0, _⟩ =>
      have h : win0_3.xsize (cfg0.grid.coords t) (0 : Fin 2) = _ := (ext3 t).1
      change r.val < win0_3.xsize (cfg0.grid.coords t) (0 : Fin 2)
      omega
    | ⟨1, _⟩ =>
      have h : win0_3.xsize (cfg0.grid.coords t) (1 : Fin 2) = _ := (ext3 t).2
      change l.val < win0_3.xsize (cfg0.grid.coords t) (1 : Fin 2)
      omega
  unfold over Window.fill
  rw [dif_pos hm]
  unfold iblk
  have h : V m c (Pipeline.arrRef spec0 3) = X := hX
  rw [h]
  refine congrArg X (idx2_same ((Window.rect_emb_val win0_3 t _ 0).trans ?_) ((Window.rect_emb_val win0_3 t _ 1).trans ?_))
  · change win0_3.index t 0 * 512 + r.val = R.val
    rw [idx3]
    change t.val * 512 + r.val = R.val
    omega
  · change win0_3.index t 1 * 1024 + l.val = l.val
    rw [idx3]
    exact (congrArg (· + l.val) (Nat.zero_mul 1024)).trans (Nat.zero_add _)
theorem over3_at (d) (r : Fin 512) (l : Fin 1024) (b : Fin 16) (n : Fin 4112) (hR : 4112 * b.val + n.val = 512 * t.val + r.val) :
    over m c 3 t d (ix2 r l) = (m ((c.tc : Thread nD τ).loc main_arg3) : S16x4112x1024.Idx → EReal) (ix3 b n l) := by
  have h1 := b.isLt
  have h2 := n.isLt
  exact (over3_of m c t d r l _ (V_3 m c) ⟨4112 * b.val + n.val, by omega⟩ hR).trans (rows1024_at _ b n l _ rfl)

theorem over4_of (d) (r : Fin 512) (l : Fin 1024) (X : S65792x1024.Idx → EReal) (hX : V m c main_v80 = X) (R : Fin 65792) (hR : R.val = 512 * t.val + r.val) :
    over m c 4 t d (ix2 r l) = X (ix2 R l) := by
  have hr := r.isLt
  have hl := l.isLt
  have hR' := R.isLt
  have hm : (cfg0.win 4).moved (cfg0.grid.coords t) (ix2 r l) = true := ((cfg0.win 4).moved_iff _ _).mpr fun a => by
    match a with
    | ⟨0, _⟩ =>
      have h : win0_4.xsize (cfg0.grid.coords t) (0 : Fin 2) = _ := (ext4 t).1
      change r.val < win0_4.xsize (cfg0.grid.coords t) (0 : Fin 2)
      omega
    | ⟨1, _⟩ =>
      have h : win0_4.xsize (cfg0.grid.coords t) (1 : Fin 2) = _ := (ext4 t).2
      change l.val < win0_4.xsize (cfg0.grid.coords t) (1 : Fin 2)
      omega
  unfold over Window.fill
  rw [dif_pos hm]
  unfold iblk
  have h : V m c (Pipeline.arrRef spec0 4) = X := hX
  rw [h]
  refine congrArg X (idx2_same ((Window.rect_emb_val win0_4 t _ 0).trans ?_) ((Window.rect_emb_val win0_4 t _ 1).trans ?_))
  · change win0_4.index t 0 * 512 + r.val = R.val
    rw [idx4]
    change t.val * 512 + r.val = R.val
    omega
  · change win0_4.index t 1 * 1024 + l.val = l.val
    rw [idx4]
    exact (congrArg (· + l.val) (Nat.zero_mul 1024)).trans (Nat.zero_add _)
theorem over4_at (d) (r : Fin 512) (l : Fin 1024) (b : Fin 16) (n : Fin 4112) (hR : 4112 * b.val + n.val = 512 * t.val + r.val) :
    over m c 4 t d (ix2 r l) = (m ((c.tc : Thread nD τ).loc main_arg4) : S16x4112x1024.Idx → EReal) (ix3 b n l) := by
  have h1 := b.isLt
  have h2 := n.isLt
  exact (over4_of m c t d r l _ (V_4 m c) ⟨4112 * b.val + n.val, by omega⟩ hR).trans (rows1024_at _ b n l _ rfl)

theorem blk5_of (k l : Fin 1024) (X : S1024x1024.Idx → EReal) (hX : V m c main_v81 = X) : iblk m c 5 t (ix2 k l) = X (ix2 k l) := by
  unfold iblk
  have h : V m c (Pipeline.arrRef spec0 5) = X := hX
  rw [h]
  exact congrArg X (emb5 t k l)
theorem blk5_at (k l : Fin 1024) : iblk m c 5 t (ix2 k l) = (m ((c.tc : Thread nD τ).loc main_arg5) : S1024x1024.Idx → EReal) (ix2 k l) :=
  blk5_of m c t k l _ (V_5 m c)

/-- The residual stream after the call, at an image, a position and a lane. -/
def hidden (x0 x1 : S16x4112x256.Idx → EReal) (x2 : S16x4112x512.Idx → EReal) (x3 x4 : S16x4112x1024.Idx → EReal) (x5 : S1024x1024.Idx → EReal)
    (b : Fin 16) (n : Fin 4112) (y : Fin 1024) : EReal :=
  Cert.Hand.hidRow (Cert.Hand.mixRow (fun x => x0 (ix3 b n x)) (fun x => x1 (ix3 b n x)) (fun x => x2 (ix3 b n x)) fun x => x3 (ix3 b n x))
    (fun x => x4 (ix3 b n x)) (fun x z => x5 (ix2 x z)) y

/-- The same as an array of rows, image after image. -/
def hiddenArr (x0 x1 : S16x4112x256.Idx → EReal) (x2 : S16x4112x512.Idx → EReal) (x3 x4 : S16x4112x1024.Idx → EReal) (x5 : S1024x1024.Idx → EReal)
    (i : S65792x1024.Idx) : EReal :=
  hidden x0 x1 x2 x3 x4 x5 ⟨(i 0).val / 4112, by have : (i 0).val < 65792 := (i 0).isLt; omega⟩ ⟨(i 0).val % 4112, Nat.mod_lt _ (by decide)⟩ (i 1)

theorem hiddenArr_at (x0 x1 : S16x4112x256.Idx → EReal) (x2 : S16x4112x512.Idx → EReal) (x3 x4 : S16x4112x1024.Idx → EReal) (x5 : S1024x1024.Idx → EReal)
    (b : Fin 16) (n : Fin 4112) (R : Fin 65792) (hR : R.val = 4112 * b.val + n.val) (y : Fin 1024) :
    hiddenArr x0 x1 x2 x3 x4 x5 (ix2 R y) = hidden x0 x1 x2 x3 x4 x5 b n y := by
  have hn := n.isLt
  exact congrArg₂ (fun b n => hidden x0 x1 x2 x3 x4 x5 b n y) (Fin.ext (by change R.val / 4112 = b.val; omega)) (Fin.ext (by change R.val % 4112 = n.val; omega))

/-- The block's element on a row inside the array, whatever the buffers held below. -/
theorem block_at (d0 d1 d2 d3 d4) (r : Fin 512) (y : Fin 1024) (b : Fin 16) (n : Fin 4112) (hR : 4112 * b.val + n.val = 512 * t.val + r.val) :
    stream (over m c 0 t d0) (over m c 1 t d1) (over m c 2 t d2) (over m c 3 t d3) (over m c 4 t d4) (iblk m c 5 t) (ix2 r y)
      = hidden (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b n y := by
  refine (stream_at _ _ _ _ _ _ r y).trans ?_
  unfold hidden
  rw [funext fun x => over0_at m c t d0 r x b n hR, funext fun x => over1_at m c t d1 r x b n hR, funext fun x => over2_at m c t d2 r x b n hR,
    funext fun x => over3_at m c t d3 r x b n hR, funext fun x => over4_at m c t d4 r x b n hR, funext fun x => funext fun z => blk5_at m c t x z]

/-- An element of the moved part of the output's block: its row and lane, and the image and position of its row. -/
theorem moved_at (j : ((cfg0.win 14).xblock (cfg0.grid.coords t)).Idx) : ∃ (r : Fin 512) (y : Fin 1024) (b : Fin 16) (n : Fin 4112),
    (j 0).val = r.val ∧ (j 1).val = y.val ∧ 4112 * b.val + n.val = 512 * t.val + r.val := by
  have h0 : (j 0).val < win0_14.xsize (cfg0.grid.coords t) (0 : Fin 2) := (j 0).isLt
  have h1 : (j 1).val < win0_14.xsize (cfg0.grid.coords t) (1 : Fin 2) := (j 1).isLt
  rw [(ext14 t).1] at h0
  rw [(ext14 t).2] at h1
  refine ⟨⟨(j 0).val, by omega⟩, ⟨(j 1).val, h1⟩, ⟨(512 * t.val + (j 0).val) / 4112, by omega⟩, ⟨(512 * t.val + (j 0).val) % 4112, Nat.mod_lt _ (by decide)⟩, rfl, rfl, ?_⟩
  dsimp only
  omega

theorem same_moved (d0 d1 d2 d3 d4) : (cfg0.win 14).cut (cfg0.grid.coords t)
    (stream (over m c 0 t d0) (over m c 1 t d1) (over m c 2 t d2) (over m c 3 t d3) (over m c 4 t d4) (iblk m c 5 t))
      = (cfg0.win 14).cut (cfg0.grid.coords t) (blockOut m c t) := by
  funext j
  obtain ⟨r, y, b, n, hr, hy, hR⟩ := moved_at t j
  have e : (cfg0.win 14).xinj (cfg0.grid.coords t) j = ix2 r y := idx2_same hr hy
  exact (congrArg (stream (F := Ideal) (over m c 0 t d0) (over m c 1 t d1) (over m c 2 t d2) (over m c 3 t d3) (over m c 4 t d4) (iblk m c 5 t)) e).trans
    ((block_at m c t d0 d1 d2 d3 d4 r y b n hR).trans ((block_at m c t _ _ _ _ _ r y b n hR).symm.trans (congrArg (blockOut m c t) e.symm)))

theorem every_point_value : BodyObligationLoose (dats (F := Ideal) m 0 c) (defs₀ (F := Ideal)) Variants.none () Set.univ all14 := fun t => by
  rw [bigSep_W0, bigSep_W0, row_at]
  exact triple_restated (point_run m c t iprop(∃ d, owns (c : Thread nD τ) (st0_14 t) fullShare ((dats m 0 c).before 14 t d))
    iprop(∃ d, owns (c : Thread nD τ) (st0_14 t) fullShare ((cfg0.win 14).fill (cfg0.grid.coords t) d ((cfg0.win 14).cut (cfg0.grid.coords t) ((dats m 0 c).after 14 t))))
    (by iintro ⟨%d, H⟩; iexists _; iexact H)
    (fun d0 d1 d2 d3 d4 => by
      rw [left14]
      iintro H
      iexists (stream (over m c 0 t d0) (over m c 1 t d1) (over m c 2 t d2) (over m c 3 t d3) (over m c 4 t d4) (iblk m c 5 t))
      rw [(cfg0.win 14).fill_congr_cut _ (same_moved m c t d0 d1 d2 d3 d4)]
      iexact H)) rfl .rfl fun _ => .rfl

set_option backward.isDefEq.respectTransparency.types false in
/-- The call ends, the residual stream at what the proof data computes. -/
theorem whole_run_value (ρ : Dev nD → PrngReg) : θ_run defs (onTc (τ := τ) (main (F := Ideal))) (s₀ m ρ)
    (fun r => Pipeline.RDat.FramePost (cfgs 0) (fun c => (dats m 0 c).toRForget all14) (V m) r ∧ r.2.sem = fun _ => 0) :=
  Pipeline.θ_run_frame_forget (Q' := _) cfgs (dats m) (0 : Fin 1) launch0 defs₀ Variants.none all14 m ρ main
    (hbody := fun c => every_point_value m c) (hshare := fun c => (dats m 0 c).share_full fun _ => rfl)
    (howed := fun _ _ => rfl) (V := V m) (hmain := hmain m Variants.none) (hA := dats_A m) (hΦ := fun _ _ => rfl)

/-- The residual stream's array after the run. -/
theorem arr_out : (dats m 0 c).arrAt 14 (cfgs 0).N
    = (hiddenArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) : S65792x1024.Idx → EReal) := by
  refine (dats m 0 c).arrAt_eq_of_covers 14 _ (by decide +kernel) fun t hf j => ?_
  obtain ⟨r, y, b, n, hr, hy, hR⟩ := moved_at t j
  have hb := b.isLt
  have hn := n.isLt
  have e : (cfg0.win 14).xinj (cfg0.grid.coords t) j = ix2 r y := idx2_same hr hy
  have he : (win0_14.blk t).view.emb j = ix2 (⟨4112 * b.val + n.val, by omega⟩ : Fin 65792) y := by
    refine idx2_same ((Window.rect_emb_val win0_14 t j 0).trans ?_) ((Window.rect_emb_val win0_14 t j 1).trans ?_)
    · change win0_14.index t 0 * 512 + (j 0).val = 4112 * b.val + n.val
      rw [idx14, hr]
      change t.val * 512 + r.val = _
      omega
    · change win0_14.index t 1 * 1024 + (j 1).val = y.val
      rw [idx14, hy]
      exact (congrArg (· + y.val) (Nat.zero_mul 1024)).trans (Nat.zero_add _)
  have hv : blockOut m c t (ix2 r y) = hidden (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) b n y :=
    block_at m c t _ _ _ _ _ r y b n hR
  rw [left14]
  change blockOut m c t ((cfg0.win 14).xinj (cfg0.grid.coords t) j) = hiddenArr _ _ _ _ _ _ ((win0_14.blk t).view.emb j)
  rw [e, he]
  exact hv.trans (hiddenArr_at _ _ _ _ _ _ b n _ rfl y).symm

/-- The call's run: the residual stream is that array, the arguments as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v82_0) = (hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : S65792x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(((dats m 0 c).toRForget_arrAt_iff (fgt := all14) (w := 14) rfl _ _).mp ((h.1.1 c).1 14)).trans (arr_out m c), h.2.1 c⟩)
    (θ_run_and (whole_run_value m ρ) (args_kept m ρ))

end Cert.Kernel3Ideal.Hand

end
-- ==== Proof.StreamRef.lean ====
/-
  The reference of the call between two layers at an index, and the body's residual block at an index.
-/
module

public import proofs.«01_k».proof.Proof.Gen.Reference3Ideal.Run
public import proofs.«01_k».proof.Proof.Gen.Reference3Ideal.Read
public import proofs.«01_k».proof.Proof.FinalMath
public import Idealize.ShloMosaic.Lib.Pointwise
public import Idealize.ShloMosaic.Lib.Pointwise.IndexBridge

@[expose] public section

set_option maxRecDepth 16384
noncomputable section

namespace Cert.Reference3Ideal.Hand

open Cert.Reference3Ideal Cert.Reference3Ideal.Gen Cert.Reference3Ideal.Read
open Idealize.ShloMosaic

variable (x0 x1 : FVec Ideal S16x4112x256 .f32) (x2 : FVec Ideal S16x4112x512 .f32) (x3 x4 : FVec Ideal S16x4112x1024 .f32)
  (x5 : FVec Ideal S1024x1024 .f32)

/-- A row's gated mix in the reference. -/
theorem mix_at (b : Fin 16) (n : Fin 4112) (j : Fin 1024) :
    val_main_v6 (F := Ideal) x0 x1 x2 x3 (ix3 b n j)
      = Cert.Hand.mixRow (fun x => x0 (ix3 b n x)) (fun x => x1 (ix3 b n x)) (fun x => x2 (ix3 b n x)) (fun x => x3 (ix3 b n x)) j := by
  pointwise [val_main_v6, val_main_v1, val_main_v3, val_main_v5, val_main_v0, val_main_v2, val_main_v4]
  unfold Cert.Hand.mixRow
  have e1 : ∀ p, ¬ j.val < 256 → (⟨256 + (j.val - 256), p⟩ : Fin 1024) = j := fun p h => Fin.ext (by dsimp only; omega)
  have e2 : ∀ p, ¬ j.val < 256 → ¬ j.val - 256 < 256 → (⟨512 + (j.val - 256 - 256), p⟩ : Fin 1024) = j := fun p h h' => Fin.ext (by dsimp only; omega)
  split
  · rfl
  · rename_i h
    split
    · rw [e1 _ h]
    · rename_i h'
      rw [e2 _ h h']

/-- A row of the residual stream in the reference. -/
theorem hid_at (b : Fin 16) (n : Fin 4112) (y : Fin 1024) :
    val_main_v8 (F := Ideal) x0 x1 x2 x3 x4 x5 (ix3 b n y)
      = Cert.Hand.hidRow (Cert.Hand.mixRow (fun x => x0 (ix3 b n x)) (fun x => x1 (ix3 b n x)) (fun x => x2 (ix3 b n x)) fun x => x3 (ix3 b n x))
          (fun x => x4 (ix3 b n x)) (fun x z => x5 (ix2 x z)) y := by
  unfold Cert.Hand.hidRow
  simp only [← mix_at]
  unfold val_main_v8 val_main_v7
  generalize val_main_v6 (F := Ideal) x0 x1 x2 x3 = M
  pointwise []

/-- The result: the rows of all the images one after another. -/
theorem res_at (b : Fin 16) (n : Fin 4112) (R : Fin 65792) (hR : R.val = 4112 * b.val + n.val) (y : Fin 1024) :
    val_main_v9 (F := Ideal) x0 x1 x2 x3 x4 x5 (ix2 R y)
      = Cert.Hand.hidRow (Cert.Hand.mixRow (fun x => x0 (ix3 b n x)) (fun x => x1 (ix3 b n x)) (fun x => x2 (ix3 b n x)) fun x => x3 (ix3 b n x))
          (fun x => x4 (ix3 b n x)) (fun x z => x5 (ix2 x z)) y := by
  rw [← hid_at]
  unfold val_main_v9
  generalize val_main_v8 (F := Ideal) x0 x1 x2 x3 x4 x5 = M
  have hn := n.isLt
  pointwise
  refine congrArg M (funext fun a => Fin.ext ?_)
  match a with
  | ⟨0, _⟩ => change R.val / 4112 = b.val; omega
  | ⟨1, _⟩ => change R.val % 4112 = n.val; omega
  | ⟨2, _⟩ => rfl

end Cert.Reference3Ideal.Hand

end
-- ==== Proof.Algebraic3.lean ====
/-
  The call between two layers and its reference leave the same residual stream.
-/
module

public import proofs.«01_k».proof.Defs
public import proofs.«01_k».proof.Proof.StreamValue
public import proofs.«01_k».proof.Proof.StreamRef
public import Idealize.ShloMosaic.Lib.Pointwise.IndexBridge

@[expose] public section

set_option maxRecDepth 16384
noncomputable section

namespace Cert.Proof

open Idealize.ShloMosaic Idealize.SL.Sem

/-- The reference's term is the array of the call's residual stream. -/
theorem ref_hidden (x0 x1 : Cert.Kernel3Ideal.S16x4112x256.Idx → EReal) (x2 : Cert.Kernel3Ideal.S16x4112x512.Idx → EReal)
    (x3 x4 : Cert.Kernel3Ideal.S16x4112x1024.Idx → EReal) (x5 : Cert.Kernel3Ideal.S1024x1024.Idx → EReal) :
    Cert.Reference3Ideal.Read.val_main_v9 (F := Ideal) x0 x1 x2 x3 x4 x5 = Cert.Kernel3Ideal.Hand.hiddenArr x0 x1 x2 x3 x4 x5 := by
  refine funext fun (i : Cert.Kernel3Ideal.S65792x1024.Idx) => ?_
  obtain ⟨R, hR⟩ : ∃ R : Fin 65792, (i 0).val = R.val := ⟨i 0, rfl⟩
  obtain ⟨y, hy⟩ : ∃ y : Fin 1024, (i 1).val = y.val := ⟨i 1, rfl⟩
  have hlt := R.isLt
  have e : R.val = 4112 * (⟨R.val / 4112, by omega⟩ : Fin 16).val + (⟨R.val % 4112, Nat.mod_lt _ (by decide)⟩ : Fin 4112).val := by dsimp only; omega
  rw [Cert.Kernel2Ideal.Hand.idx2_same hR hy]
  exact (Cert.Reference3Ideal.Hand.res_at x0 x1 x2 x3 x4 x5 _ _ R e y).trans (Cert.Kernel3Ideal.Hand.hiddenArr_at x0 x1 x2 x3 x4 x5 _ _ R e y).symm

/-- The call and its reference leave the same residual stream, for any arguments. -/
theorem algebraic3 : Cert.algebraic_Kernel3Ideal_Reference3Ideal := fun m g m' g' _ hargs => by
  refine ⟨_, Cert.Kernel3Ideal.Hand.run_value m g, ?_⟩
  refine (θ_run Cert.Reference3Ideal.defs _ _).mono (fun r h c => ⟨?_, (h c).2⟩) (Cert.Reference3Ideal.Value.run (F := Ideal) m' g')
  refine (h c).1.trans ((Cert.Reference3Ideal.Read.val_main_v9_eq _ _ _ _ _ _).trans ?_)
  obtain ⟨h0, h1, h2, h3, h4, h5, -⟩ := hargs c
  rw [h0, h1, h2, h3, h4, h5]
  exact ref_hidden _ _ _ _ _ _

end Cert.Proof

end
-- ==== Proof.Frames3.lean ====
/-
  The frames of the call between two layers: the arguments end unchanged and every semaphore counter is zero again.
-/
module

public import proofs.«01_k».proof.Defs
public import proofs.«01_k».proof.Proof.StreamRun
public import proofs.«01_k».proof.Proof.StreamRunBits
public import proofs.«01_k».proof.Proof.Gen.Reference3Ideal.Run
public import Idealize.ShloMosaic.Lib.Quiescent
public import Idealize.ShloMosaic.Lib.Claim

@[expose] public section

noncomputable section

namespace Cert.Proof

open Idealize.ShloMosaic Idealize.SL.Sem

theorem frame_ideal3 : Cert.quiescent_Kernel3Ideal := fun m ρ _ => Cert.Kernel3Ideal.Hand.args_kept (F := Ideal) m ρ

theorem frame_kernel3 : Cert.quiescent_Kernel3 := fun m ρ _ => Cert.Kernel3.Hand.args_kept (F := Bits) m ρ

theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

end Cert.Proof

end
-- ==== Proof.lean ====
/-
  The certificate's claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import proofs.«01_k».proof.Proof.Gen.Kernel2
public import proofs.«01_k».proof.Proof.Gen.Kernel2Ideal
public import proofs.«01_k».proof.Proof.Gen.Reference2Ideal
public import proofs.«01_k».proof.Proof.Algebraic2
public import proofs.«01_k».proof.Proof.Frames2
public import proofs.«01_k».proof.Proof.Gen.Kernel3
public import proofs.«01_k».proof.Proof.Gen.Kernel3Ideal
public import proofs.«01_k».proof.Proof.Gen.Reference3Ideal
public import proofs.«01_k».proof.Proof.Algebraic3
public import proofs.«01_k».proof.Proof.Frames3
public import Idealize.ShloMosaic.Adequacy
public import Idealize.ShloMosaic.Init

@[expose] public section

noncomputable section

namespace Cert.Proof

open Idealize.ShloMosaic Idealize.SL.Sem

theorem claim : Cert.Claim :=
  letI := Cert.Hand.finite_facts
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Hand.finite_facts, frame_kernel, frame_ideal, fun m ρ _ => frame_ideal m ρ trivial, frame_reference,
    fun m ρ _ => frame_reference m ρ trivial, frame_kernel2, frame_ideal2, frame_reference2,
    frame_kernel3, frame_ideal3, frame_reference3, trivial, algebraic, trivial, algebraic2, trivial, algebraic3⟩

end Cert.Proof

end
